-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1536x4096 : Shape := ⟨3, ![4, 1536, 4096]⟩
abbrev S14336x2048 : Shape := ⟨2, ![14336, 2048]⟩
abbrev S14336x32 : Shape := ⟨2, ![14336, 32]⟩
abbrev S6144x4096 : Shape := ⟨2, ![6144, 4096]⟩
abbrev S6144x2048 : Shape := ⟨2, ![6144, 2048]⟩
abbrev S6144x32 : Shape := ⟨2, ![6144, 32]⟩
abbrev S128x4096 : Shape := ⟨2, ![128, 4096]⟩
abbrev S128x2048 : Shape := ⟨2, ![128, 2048]⟩
abbrev S128x32 : Shape := ⟨2, ![128, 32]⟩
abbrev S8x128 : Shape := ⟨2, ![8, 128]⟩
abbrev S32x128 : Shape := ⟨2, ![32, 128]⟩
abbrev S32 : Shape := ⟨1, ![32]⟩
abbrev S32x1 : Shape := ⟨2, ![32, 1]⟩
abbrev S8x128x1 : Shape := ⟨3, ![8, 128, 1]⟩
abbrev S32x32 : Shape := ⟨2, ![32, 32]⟩
abbrev S_ : Shape := ⟨0, ![]⟩
abbrev S14336x128 : Shape := ⟨2, ![14336, 128]⟩
abbrev S6144x14336 : Shape := ⟨2, ![6144, 14336]⟩
abbrev S1024x4096 : Shape := ⟨2, ![1024, 4096]⟩
abbrev S1024x2048 : Shape := ⟨2, ![1024, 2048]⟩
abbrev S1024x128 : Shape := ⟨2, ![1024, 128]⟩
abbrev S1024x1024 : Shape := ⟨2, ![1024, 1024]⟩
abbrev S16x128 : Shape := ⟨2, ![16, 128]⟩
abbrev S16x128x1 : Shape := ⟨3, ![16, 128, 1]⟩

abbrev nBuf : Space → Nat
  | .hbm => 12
  | .vmem => 19
  | .smem => 0
  | _ => 0

abbrev bufTy : (tb : Table) → Fin (tcTables nBuf tb) → BufTy
  | .hbm, ⟨0, _⟩ => ⟨S4x1536x4096, .bf16⟩
  | .hbm, ⟨1, _⟩ => ⟨S14336x2048, .i8⟩
  | .hbm, ⟨2, _⟩ => ⟨S14336x32, .f32⟩
  | .hbm, ⟨3, _⟩ => ⟨S6144x4096, .bf16⟩
  | .hbm, ⟨4, _⟩ => ⟨S6144x4096, .bf16⟩
  | .hbm, ⟨5, _⟩ => ⟨S6144x2048, .i8⟩
  | .hbm, ⟨6, _⟩ => ⟨S6144x32, .f32⟩
  | .hbm, ⟨7, _⟩ => ⟨S6144x32, .i8⟩
  | .hbm, ⟨8, _⟩ => ⟨S_, .i32⟩
  | .hbm, ⟨9, _⟩ => ⟨S_, .f32⟩
  | .hbm, ⟨10, _⟩ => ⟨S14336x128, .f32⟩
  | .hbm, ⟨11, _⟩ => ⟨S6144x14336, .bf16⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x2048, .i8⟩
  | .local _ .vmem, ⟨5, _⟩ => ⟨S128x2048, .i8⟩
  | .local _ .vmem, ⟨6, _⟩ => ⟨S128x32, .f32⟩
  | .local _ .vmem, ⟨7, _⟩ => ⟨S128x32, .f32⟩
  | .local _ .vmem, ⟨8, _⟩ => ⟨S128x32, .i8⟩
  | .local _ .vmem, ⟨9, _⟩ => ⟨S128x32, .i8⟩
  | .local _ .vmem, ⟨10, _⟩ => ⟨S1024x4096, .bf16⟩
  | .local _ .vmem, ⟨11, _⟩ => ⟨S1024x4096, .bf16⟩
  | .local _ .vmem, ⟨12, _⟩ => ⟨S1024x2048, .i8⟩
  | .local _ .vmem, ⟨13, _⟩ => ⟨S1024x2048, .i8⟩
  | .local _ .vmem, ⟨14, _⟩ => ⟨S1024x128, .f32⟩
  | .local _ .vmem, ⟨15, _⟩ => ⟨S1024x128, .f32⟩
  | .local _ .vmem, ⟨16, _⟩ => ⟨S1024x1024, .bf16⟩
  | .local _ .vmem, ⟨17, _⟩ => ⟨S1024x1024, .bf16⟩
  | .local _ .vmem, ⟨18, _⟩ => ⟨S1024x4096, .bf16⟩
  | _, _ => ⟨S4x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c4_i32 : BitVec 32 := 4#32
  let v13 : BitVec 32 := Scalar.addi c0_i32 c4_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  v14
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v18 : Index := Scalar.indexCast v15
  let c0 : Index := 0#32
  ![v18.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v59 : Index := Scalar.indexCast v15
  let c128 : Index := 128#32
  ![v59.toNat, 128]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v133 : Index := Scalar.indexCast v15
  let c0_32 : Index := 0#32
  ![v133.toNat, 0]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v159 : Index := Scalar.indexCast v15
  let c256 : Index := 256#32
  ![v159.toNat, 256]
def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v200 : Index := Scalar.indexCast v15
  let c384 : Index := 384#32
  ![v200.toNat, 384]
def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v274 : Index := Scalar.indexCast v15
  let c128_63 : Index := 128#32
  ![v274.toNat, 128]
def k0_off7 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v300 : Index := Scalar.indexCast v15
  let c512 : Index := 512#32
  ![v300.toNat, 512]
def k0_off8 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v341 : Index := Scalar.indexCast v15
  let c640 : Index := 640#32
  ![v341.toNat, 640]
def k0_off9 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v415 : Index := Scalar.indexCast v15
  let c256_94 : Index := 256#32
  ![v415.toNat, 256]
def k0_off10 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v441 : Index := Scalar.indexCast v15
  let c768 : Index := 768#32
  ![v441.toNat, 768]
def k0_off11 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v482 : Index := Scalar.indexCast v15
  let c896 : Index := 896#32
  ![v482.toNat, 896]
def k0_off12 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v556 : Index := Scalar.indexCast v15
  let c384_124 : Index := 384#32
  ![v556.toNat, 384]
def k0_off13 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v582 : Index := Scalar.indexCast v15
  let c1024 : Index := 1024#32
  ![v582.toNat, 1024]
def k0_off14 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v623 : Index := Scalar.indexCast v15
  let c1152 : Index := 1152#32
  ![v623.toNat, 1152]
def k0_off15 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v697 : Index := Scalar.indexCast v15
  let c512_154 : Index := 512#32
  ![v697.toNat, 512]
def k0_off16 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v723 : Index := Scalar.indexCast v15
  let c1280 : Index := 1280#32
  ![v723.toNat, 1280]
def k0_off17 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v764 : Index := Scalar.indexCast v15
  let c1408 : Index := 1408#32
  ![v764.toNat, 1408]
def k0_off18 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v838 : Index := Scalar.indexCast v15
  let c640_184 : Index := 640#32
  ![v838.toNat, 640]
def k0_off19 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v864 : Index := Scalar.indexCast v15
  let c1536 : Index := 1536#32
  ![v864.toNat, 1536]
def k0_off20 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v905 : Index := Scalar.indexCast v15
  let c1664 : Index := 1664#32
  ![v905.toNat, 1664]
def k0_off21 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v979 : Index := Scalar.indexCast v15
  let c768_214 : Index := 768#32
  ![v979.toNat, 768]
def k0_off22 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1005 : Index := Scalar.indexCast v15
  let c1792 : Index := 1792#32
  ![v1005.toNat, 1792]
def k0_off23 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1046 : Index := Scalar.indexCast v15
  let c1920 : Index := 1920#32
  ![v1046.toNat, 1920]
def k0_off24 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1120 : Index := Scalar.indexCast v15
  let c896_244 : Index := 896#32
  ![v1120.toNat, 896]
def k0_off25 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1146 : Index := Scalar.indexCast v15
  let c2048 : Index := 2048#32
  ![v1146.toNat, 2048]
def k0_off26 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1187 : Index := Scalar.indexCast v15
  let c2176 : Index := 2176#32
  ![v1187.toNat, 2176]
def k0_off27 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1261 : Index := Scalar.indexCast v15
  let c1024_274 : Index := 1024#32
  ![v1261.toNat, 1024]
def k0_off28 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1287 : Index := Scalar.indexCast v15
  let c2304 : Index := 2304#32
  ![v1287.toNat, 2304]
def k0_off29 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1328 : Index := Scalar.indexCast v15
  let c2432 : Index := 2432#32
  ![v1328.toNat, 2432]
def k0_off30 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1402 : Index := Scalar.indexCast v15
  let c1152_304 : Index := 1152#32
  ![v1402.toNat, 1152]
def k0_off31 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1428 : Index := Scalar.indexCast v15
  let c2560 : Index := 2560#32
  ![v1428.toNat, 2560]
def k0_off32 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1469 : Index := Scalar.indexCast v15
  let c2688 : Index := 2688#32
  ![v1469.toNat, 2688]
def k0_off33 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1543 : Index := Scalar.indexCast v15
  let c1280_334 : Index := 1280#32
  ![v1543.toNat, 1280]
def k0_off34 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1569 : Index := Scalar.indexCast v15
  let c2816 : Index := 2816#32
  ![v1569.toNat, 2816]
def k0_off35 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1610 : Index := Scalar.indexCast v15
  let c2944 : Index := 2944#32
  ![v1610.toNat, 2944]
def k0_off36 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1684 : Index := Scalar.indexCast v15
  let c1408_364 : Index := 1408#32
  ![v1684.toNat, 1408]
def k0_off37 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1710 : Index := Scalar.indexCast v15
  let c3072 : Index := 3072#32
  ![v1710.toNat, 3072]
def k0_off38 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1751 : Index := Scalar.indexCast v15
  let c3200 : Index := 3200#32
  ![v1751.toNat, 3200]
def k0_off39 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1825 : Index := Scalar.indexCast v15
  let c1536_394 : Index := 1536#32
  ![v1825.toNat, 1536]
def k0_off40 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1851 : Index := Scalar.indexCast v15
  let c3328 : Index := 3328#32
  ![v1851.toNat, 3328]
def k0_off41 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1892 : Index := Scalar.indexCast v15
  let c3456 : Index := 3456#32
  ![v1892.toNat, 3456]
def k0_off42 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1966 : Index := Scalar.indexCast v15
  let c1664_424 : Index := 1664#32
  ![v1966.toNat, 1664]
def k0_off43 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v1992 : Index := Scalar.indexCast v15
  let c3584 : Index := 3584#32
  ![v1992.toNat, 3584]
def k0_off44 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v2033 : Index := Scalar.indexCast v15
  let c3712 : Index := 3712#32
  ![v2033.toNat, 3712]
def k0_off45 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v2107 : Index := Scalar.indexCast v15
  let c1792_454 : Index := 1792#32
  ![v2107.toNat, 1792]
def k0_off46 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v2133 : Index := Scalar.indexCast v15
  let c3840 : Index := 3840#32
  ![v2133.toNat, 3840]
def k0_off47 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v2174 : Index := Scalar.indexCast v15
  let c3968 : Index := 3968#32
  ![v2174.toNat, 3968]
def k0_off48 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v2248 : Index := Scalar.indexCast v15
  let c1920_484 : Index := 1920#32
  ![v2248.toNat, 1920]
def k0_off49 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v14 : BitVec 32 := Scalar.muli arg6 c32_i32
  let v15 : BitVec 32 := v14
  let v2275 : Index := Scalar.indexCast v15
  let c0_487 : Index := 0#32
  ![v2275.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x32 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![14, 6], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_6 : BitVec 32 := 0#32
  let c32_i32 : BitVec 32 := 32#32
  let v13 : BitVec 32 := Scalar.addi c0_i32_6 c32_i32
  let c1_i32 : BitVec 32 := 1#32
  ⟨c0_i32_6, v13, c1_i32⟩
def k1_mult1 (k1_t1 : Fin k1_t1_loop.trips) : BitVec 32 :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  v14
def k1_off1 (k1_t1 : Fin k1_t1_loop.trips) (c0_i32_9 : BitVec 32) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v16 : BitVec 32 := Scalar.addi v15 c0_i32_9
  let v17 : Index := Scalar.indexCast v16
  let c0_10 : Index := 0#32
  ![v17.toNat, 0]
def k1_off2 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v28 : Index := Scalar.indexCast v15
  let c0_12 : Index := 0#32
  ![v28.toNat, 0]
def k1_off3 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v65 : Index := Scalar.indexCast v15
  let c0_18 : Index := 0#32
  ![v65.toNat, 0]
def k1_off4 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v74 : Index := Scalar.indexCast v15
  let c128 : Index := 128#32
  ![v74.toNat, 128]
def k1_off5 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v78 : Index := Scalar.indexCast v15
  let c128_20 : Index := 128#32
  ![v78.toNat, 128]
def k1_off6 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v115 : Index := Scalar.indexCast v15
  let c256 : Index := 256#32
  ![v115.toNat, 256]
def k1_off7 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v124 : Index := Scalar.indexCast v15
  let c384 : Index := 384#32
  ![v124.toNat, 384]
def k1_off8 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v128 : Index := Scalar.indexCast v15
  let c256_28 : Index := 256#32
  ![v128.toNat, 256]
def k1_off9 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v165 : Index := Scalar.indexCast v15
  let c512 : Index := 512#32
  ![v165.toNat, 512]
def k1_off10 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v174 : Index := Scalar.indexCast v15
  let c640 : Index := 640#32
  ![v174.toNat, 640]
def k1_off11 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v178 : Index := Scalar.indexCast v15
  let c384_37 : Index := 384#32
  ![v178.toNat, 384]
def k1_off12 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v215 : Index := Scalar.indexCast v15
  let c768 : Index := 768#32
  ![v215.toNat, 768]
def k1_off13 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v224 : Index := Scalar.indexCast v15
  let c896 : Index := 896#32
  ![v224.toNat, 896]
def k1_off14 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v228 : Index := Scalar.indexCast v15
  let c512_45 : Index := 512#32
  ![v228.toNat, 512]
def k1_off15 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v265 : Index := Scalar.indexCast v15
  let c1024 : Index := 1024#32
  ![v265.toNat, 1024]
def k1_off16 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v274 : Index := Scalar.indexCast v15
  let c1152 : Index := 1152#32
  ![v274.toNat, 1152]
def k1_off17 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v278 : Index := Scalar.indexCast v15
  let c640_53 : Index := 640#32
  ![v278.toNat, 640]
def k1_off18 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v315 : Index := Scalar.indexCast v15
  let c1280 : Index := 1280#32
  ![v315.toNat, 1280]
def k1_off19 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v324 : Index := Scalar.indexCast v15
  let c1408 : Index := 1408#32
  ![v324.toNat, 1408]
def k1_off20 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v328 : Index := Scalar.indexCast v15
  let c768_61 : Index := 768#32
  ![v328.toNat, 768]
def k1_off21 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v365 : Index := Scalar.indexCast v15
  let c1536 : Index := 1536#32
  ![v365.toNat, 1536]
def k1_off22 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v374 : Index := Scalar.indexCast v15
  let c1664 : Index := 1664#32
  ![v374.toNat, 1664]
def k1_off23 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v378 : Index := Scalar.indexCast v15
  let c896_69 : Index := 896#32
  ![v378.toNat, 896]
def k1_off24 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v415 : Index := Scalar.indexCast v15
  let c1792 : Index := 1792#32
  ![v415.toNat, 1792]
def k1_off25 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v424 : Index := Scalar.indexCast v15
  let c1920 : Index := 1920#32
  ![v424.toNat, 1920]
def k1_off26 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v428 : Index := Scalar.indexCast v15
  let c1024_77 : Index := 1024#32
  ![v428.toNat, 1024]
def k1_off27 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v465 : Index := Scalar.indexCast v15
  let c2048 : Index := 2048#32
  ![v465.toNat, 2048]
def k1_off28 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v474 : Index := Scalar.indexCast v15
  let c2176 : Index := 2176#32
  ![v474.toNat, 2176]
def k1_off29 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v478 : Index := Scalar.indexCast v15
  let c1152_86 : Index := 1152#32
  ![v478.toNat, 1152]
def k1_off30 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v515 : Index := Scalar.indexCast v15
  let c2304 : Index := 2304#32
  ![v515.toNat, 2304]
def k1_off31 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v524 : Index := Scalar.indexCast v15
  let c2432 : Index := 2432#32
  ![v524.toNat, 2432]
def k1_off32 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v528 : Index := Scalar.indexCast v15
  let c1280_94 : Index := 1280#32
  ![v528.toNat, 1280]
def k1_off33 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v565 : Index := Scalar.indexCast v15
  let c2560 : Index := 2560#32
  ![v565.toNat, 2560]
def k1_off34 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v574 : Index := Scalar.indexCast v15
  let c2688 : Index := 2688#32
  ![v574.toNat, 2688]
def k1_off35 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v578 : Index := Scalar.indexCast v15
  let c1408_102 : Index := 1408#32
  ![v578.toNat, 1408]
def k1_off36 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v615 : Index := Scalar.indexCast v15
  let c2816 : Index := 2816#32
  ![v615.toNat, 2816]
def k1_off37 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v624 : Index := Scalar.indexCast v15
  let c2944 : Index := 2944#32
  ![v624.toNat, 2944]
def k1_off38 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v628 : Index := Scalar.indexCast v15
  let c1536_110 : Index := 1536#32
  ![v628.toNat, 1536]
def k1_off39 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v665 : Index := Scalar.indexCast v15
  let c3072 : Index := 3072#32
  ![v665.toNat, 3072]
def k1_off40 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v674 : Index := Scalar.indexCast v15
  let c3200 : Index := 3200#32
  ![v674.toNat, 3200]
def k1_off41 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v678 : Index := Scalar.indexCast v15
  let c1664_118 : Index := 1664#32
  ![v678.toNat, 1664]
def k1_off42 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v715 : Index := Scalar.indexCast v15
  let c3328 : Index := 3328#32
  ![v715.toNat, 3328]
def k1_off43 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v724 : Index := Scalar.indexCast v15
  let c3456 : Index := 3456#32
  ![v724.toNat, 3456]
def k1_off44 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v728 : Index := Scalar.indexCast v15
  let c1792_126 : Index := 1792#32
  ![v728.toNat, 1792]
def k1_off45 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v765 : Index := Scalar.indexCast v15
  let c3584 : Index := 3584#32
  ![v765.toNat, 3584]
def k1_off46 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v774 : Index := Scalar.indexCast v15
  let c3712 : Index := 3712#32
  ![v774.toNat, 3712]
def k1_off47 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v778 : Index := Scalar.indexCast v15
  let c1920_134 : Index := 1920#32
  ![v778.toNat, 1920]
def k1_off48 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v815 : Index := Scalar.indexCast v15
  let c3840 : Index := 3840#32
  ![v815.toNat, 3840]
def k1_off49 (k1_t1 : Fin k1_t1_loop.trips) : Fin 2 → Nat :=
  let c0_i32_6 : BitVec 32 := 0#32
  let c1_i32 : BitVec 32 := 1#32
  let arg7 : BitVec 32 := Scf.iv c0_i32_6 c1_i32 k1_t1
  let c32_i32_8 : BitVec 32 := 32#32
  let v14 : BitVec 32 := Scalar.muli arg7 c32_i32_8
  let v15 : BitVec 32 := v14
  let v824 : Index := Scalar.indexCast v15
  let c3968 : Index := 3968#32
  ![v824.toNat, 3968]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S4x1536x4096 : Shape := ⟨3, ![4, 1536, 4096]⟩
abbrev S14336x2048 : Shape := ⟨2, ![14336, 2048]⟩
abbrev S14336x32 : Shape := ⟨2, ![14336, 32]⟩
abbrev S6144x14336 : Shape := ⟨2, ![6144, 14336]⟩
abbrev S6144x2048 : Shape := ⟨2, ![6144, 2048]⟩
abbrev S6144x32 : Shape := ⟨2, ![6144, 32]⟩
abbrev S6144x32x128 : Shape := ⟨3, ![6144, 32, 128]⟩
abbrev S6144x32x1 : Shape := ⟨3, ![6144, 32, 1]⟩
abbrev S6144x2048x2 : Shape := ⟨3, ![6144, 2048, 2]⟩
abbrev S6144x2048x1 : Shape := ⟨3, ![6144, 2048, 1]⟩
abbrev S14336x32x1 : Shape := ⟨3, ![14336, 32, 1]⟩
abbrev S14336x32x64 : Shape := ⟨3, ![14336, 32, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x1536x4096, .bf16⟩
  | .hbm, ⟨1, _⟩ => ⟨S14336x2048, .i8⟩
  | .hbm, ⟨2, _⟩ => ⟨S14336x32, .f32⟩
  | .hbm, ⟨3, _⟩ => ⟨S6144x14336, .bf16⟩
  | .hbm, ⟨4, _⟩ => ⟨S6144x2048, .i8⟩
  | .hbm, ⟨5, _⟩ => ⟨S6144x32, .f32⟩
  | .hbm, ⟨6, _⟩ => ⟨S6144x32, .i8⟩
  | .local _ .vmem, ⟨0, _⟩ => ⟨S4x1536x4096, .bf16⟩
  | .local _ .vmem, ⟨1, _⟩ => ⟨S14336x2048, .i8⟩
  | .local _ .vmem, ⟨2, _⟩ => ⟨S14336x32, .f32⟩
  | .local _ .vmem, ⟨3, _⟩ => ⟨S6144x14336, .bf16⟩
  | .local _ .vmem, ⟨4, _⟩ => ⟨S6144x2048, .i8⟩
  | .local _ .vmem, ⟨5, _⟩ => ⟨S6144x32, .f32⟩
  | .local _ .vmem, ⟨6, _⟩ => ⟨S6144x32, .i8⟩
  | _, _ => ⟨S4x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x14336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x2048 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x32 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Quant.lean ====
/- The first kernel region of the program, `quant` (48 points of 128 rows): the body's run on any staging
   buffers, what it leaves in each output, the pipeline's proof data and its body obligation, stated at the contents `V`
   with which the region is entered. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0_quant` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 1, through which its contents are stated (`View.read_writes_of_cover`: the
    choice does not matter). -/
abbrev VO0_1 : View sig .tc .vmem S128x4096 .bf16 := (Memref.whole cc0_stg1_0 : Memref sig .tc .vmem S128x4096 .bf16).view
/-- One staging buffer of output window 2, through which its contents are stated (`View.read_writes_of_cover`: the
    choice does not matter). -/
abbrev VO0_2 : View sig .tc .vmem S128x2048 .i8 := (Memref.whole cc0_stg2_0 : Memref sig .tc .vmem S128x2048 .i8).view
/-- One staging buffer of output window 3, through which its contents are stated (`View.read_writes_of_cover`: the
    choice does not matter). -/
abbrev VO0_3 : View sig .tc .vmem S128x32 .f32 := (Memref.whole cc0_stg3_0 : Memref sig .tc .vmem S128x32 .f32).view
/-- One staging buffer of output window 4, through which its contents are stated (`View.read_writes_of_cover`: the
    choice does not matter). -/
abbrev VO0_4 : View sig .tc .vmem S128x32 .i8 := (Memref.whole cc0_stg4_0 : Memref sig .tc .vmem S128x32 .i8).view
/-- Each window's current staging memref at point `t`, spelled as the pipeline passes it (`bodyAt0`), and its wholeness. -/
abbrev ms0_0 (t : Fin cfg0.N) : Memref sig .tc .vmem S128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x32 .i8 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) :
    Σ' (L1 : List (View.Piece (Elt F) S128x4096 .bf16)), Σ' (L2 : List (View.Piece (Elt F) S128x2048 .i8)), Σ' (L3 : List (View.Piece (Elt F) S128x32 .f32)), { L4 : List (View.Piece (Elt F) S128x32 .i8) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_quant i arg1 harg1 arg2 harg2 arg3 harg3 arg4 harg4 arg5 harg5) K } := by
  refine ⟨?_, ?_, ?_, ?_, fun E K => ?run⟩
  case run =>
    simp only [cc0_quant_eq_skeleton]; unfold cc0_quant_skel
    unfold owns
    iintro ⟨⟨%f0, %hf0, H0⟩, ⟨%d1, %f1, -, H1⟩, ⟨%d2, %f2, -, H2⟩, ⟨%d3, %f3, -, H3⟩, ⟨%d4, %f4, -, H4⟩, Hk⟩
    obtain rfl := harg1.eq_unread hf0
    sl_exec
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    iexists _; iexact H4

/-- The run's pieces for output 1 tile its block (128 stores of `S32x128`, checked by the kernel's evaluation: Lib/Ring.lean `Piece.tiledL`, linear in the pieces, through a loop's `@[irreducible]` trip theorem too), so they cover it. -/
theorem cover0_A_1 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) (y : S128x4096.Idx) :
    ∃ pc ∈ (kernelRun0_A c i arg1 harg1 arg2 harg2 arg3 harg3 arg4 harg4 arg5 harg5 x0).1, y ∈ pc.1.set :=
  View.cover_of_tiledL (kernelRun0_A c i arg1 harg1 arg2 harg2 arg3 harg3 arg4 harg4 arg5 harg5 x0).1 S32x128.size (by sl_kernel_rfl) y

/-- What the run leaves in output 1's staging buffer: its pieces read back over junk. -/
def out0_A_1 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) : Vec F S128x4096 .bf16 :=
  VO0_1.read (Elt F) (VO0_1.writes (Elt F) VO0_1.junk (kernelRun0_A c i arg1 harg1 arg2 harg2 arg3 harg3 arg4 harg4 arg5 harg5 x0).1)

/-- The run's pieces for output 2 tile its block (64 stores of `S32x128`, checked by the kernel's evaluation: Lib/Ring.lean `Piece.tiledL`, linear in the pieces, through a loop's `@[irreducible]` trip theorem too), so they cover it. -/
theorem cover0_A_2 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) (y : S128x2048.Idx) :
    ∃ pc ∈ (kernelRun0_A c i arg1 harg1 arg2 harg2 arg3 harg3 arg4 harg4 arg5 harg5 x0).2.1, y ∈ pc.1.set :=
  View.cover_of_tiledL (kernelRun0_A c i arg1 harg1 arg2 harg2 arg3 harg3 arg4 harg4 arg5 harg5 x0).2.1 S32x128.size (by sl_kernel_rfl) y

/-- What the run leaves in output 2's staging buffer: its pieces read back over junk. -/
def out0_A_2 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) : Vec F S128x2048 .i8 :=
  VO0_2.read (Elt F) (VO0_2.writes (Elt F) VO0_2.junk (kernelRun0_A c i arg1 harg1 arg2 harg2 arg3 harg3 arg4 harg4 arg5 harg5 x0).2.1)

/-- The run's pieces for output 3 tile its block (4 stores of `S32x32`, checked by the kernel's evaluation: Lib/Ring.lean `Piece.tiledL`, linear in the pieces, through a loop's `@[irreducible]` trip theorem too), so they cover it. -/
theorem cover0_A_3 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) (y : S128x32.Idx) :
    ∃ pc ∈ (kernelRun0_A c i arg1 harg1 arg2 harg2 arg3 harg3 arg4 harg4 arg5 harg5 x0).2.2.1, y ∈ pc.1.set :=
  View.cover_of_tiledL (kernelRun0_A c i arg1 harg1 arg2 harg2 arg3 harg3 arg4 harg4 arg5 harg5 x0).2.2.1 S32x32.size (by sl_kernel_rfl) y

/-- What the run leaves in output 3's staging buffer: its pieces read back over junk. -/
def out0_A_3 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) : Vec F S128x32 .f32 :=
  VO0_3.read (Elt F) (VO0_3.writes (Elt F) VO0_3.junk (kernelRun0_A c i arg1 harg1 arg2 harg2 arg3 harg3 arg4 harg4 arg5 harg5 x0).2.2.1)

/-- The run's pieces for output 4 tile its block (4 stores of `S32x32`, checked by the kernel's evaluation: Lib/Ring.lean `Piece.tiledL`, linear in the pieces, through a loop's `@[irreducible]` trip theorem too), so they cover it. -/
theorem cover0_A_4 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) (y : S128x32.Idx) :
    ∃ pc ∈ (kernelRun0_A c i arg1 harg1 arg2 harg2 arg3 harg3 arg4 harg4 arg5 harg5 x0).2.2.2.1, y ∈ pc.1.set :=
  View.cover_of_tiledL (kernelRun0_A c i arg1 harg1 arg2 harg2 arg3 harg3 arg4 harg4 arg5 harg5 x0).2.2.2.1 S32x32.size (by sl_kernel_rfl) y

/-- What the run leaves in output 4's staging buffer: its pieces read back over junk. -/
def out0_A_4 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) : Vec F S128x32 .i8 :=
  VO0_4.read (Elt F) (VO0_4.writes (Elt F) VO0_4.junk (kernelRun0_A c i arg1 harg1 arg2 harg2 arg3 harg3 arg4 harg4 arg5 harg5 x0).2.2.2.1)

/-! ## What the outputs hold after each point -/

/-- What the outputs' staging buffers hold after the body at point `t` (as a tuple, in window order): the run's contents at
    the point's memrefs and input blocks. -/
def outsAt0 (c : Dev nD) (t : Fin cfg0.N) : Vec F S128x4096 .bf16 × Vec F S128x2048 .i8 × Vec F S128x32 .f32 × Vec F S128x32 .i8 :=
  (out0_A_1 c (grid0.coords t) (ms0_0 t) (hs0_0 t) (ms0_1 t) (hs0_1 t) (ms0_2 t) (hs0_2 t) (ms0_3 t) (hs0_3 t) (ms0_4 t) (hs0_4 t) (iblk0 V c 0 t), out0_A_2 c (grid0.coords t) (ms0_0 t) (hs0_0 t) (ms0_1 t) (hs0_1 t) (ms0_2 t) (hs0_2 t) (ms0_3 t) (hs0_3 t) (ms0_4 t) (hs0_4 t) (iblk0 V c 0 t), out0_A_3 c (grid0.coords t) (ms0_0 t) (hs0_0 t) (ms0_1 t) (hs0_1 t) (ms0_2 t) (hs0_2 t) (ms0_3 t) (hs0_3 t) (ms0_4 t) (hs0_4 t) (iblk0 V c 0 t), out0_A_4 c (grid0.coords t) (ms0_0 t) (hs0_0 t) (ms0_1 t) (hs0_1 t) (ms0_2 t) (hs0_2 t) (ms0_3 t) (hs0_3 t) (ms0_4 t) (hs0_4 t) (iblk0 V c 0 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t).1
    | ⟨2, _⟩ => (outsAt0 V c t).2.1
    | ⟨3, _⟩ => (outsAt0 V c t).2.2.1
    | ⟨4, _⟩ => (outsAt0 V c t).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t).1 := by dsimp only [dat0]
theorem after0_2 (c : Dev nD) (t : Fin cfg0.N) : (dat0 V c).after 2 t = (outsAt0 V c t).2.1 := by dsimp only [dat0]
theorem after0_3 (c : Dev nD) (t : Fin cfg0.N) : (dat0 V c).after 3 t = (outsAt0 V c t).2.2.1 := by dsimp only [dat0]
theorem after0_4 (c : Dev nD) (t : Fin cfg0.N) : (dat0 V c).after 4 t = (outsAt0 V c t).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_1 out0_A_2 out0_A_3 out0_A_4; (try dsimp only)
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk0 V c 0 t)).2.2.2.2 Set.univ _)
  isplitl [H0]; · iexact H0
  isplitl [H1]; · iexists _; iexact H1
  isplitl [H2]; · iexists _; iexact H2
  isplitl [H3]; · iexists _; iexact H3
  isplitl [H4]; · iexists _; iexact H4
  iintro ⟨H0, ⟨%e1, H1⟩, ⟨%e2, H2⟩, ⟨%e3, H3⟩, ⟨%e4, H4⟩⟩
  isplitl [HΦ]; · iexact HΦ
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _ _ _ _ _)
  isplitl [H2]
  · unfold owns; iexists _; isplitr
    swap; · iexact H2
    ipureintro; exact View.read_writes_of_cover _ _ _ _ _ (cover0_A_2 c _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _)
  unfold owns; iexists _; isplitr
  swap; · iexact H4
  ipureintro; exact View.read_writes_of_cover _ _ _ _ _ (cover0_A_4 c _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Whole

end
-- ==== Proof.Kernel.Mm.lean ====
/- The second kernel region of the program, `mm` (14 × 6 points): at the first point of each row of the grid the
   weight tile is dequantised into a scratch buffer, which the other five points read. The body's run in both cases, what
   it leaves in the output and in the scratch point by point, the proof data (an invariant that names the scratch's
   contents) and the body obligation, at the contents `V` with which the region is entered. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1_mm` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 6) — by arithmetic of the point. -/
theorem hcond1_0 : ∀ t : Fin cfg1.N, cond1_0 (grid1.coords t) ↔ t.val % 6 = 0 :=
  (fun t => by
    have ht : t.val < 84 := Nat.lt_of_lt_of_eq t.isLt N_1
    have e0 : (grid1.coords t 0).val = t.val / 6 % 14 := Pipeline.Grid.coords_val t 0 (by decide) rfl
    have e1 : (grid1.coords t 1).val = t.val / 1 % 6 := Pipeline.Grid.coords_val t 1 (by decide) rfl
    simp only [cond1_0, k1_cond1, e0, e1]
    word_cmp
   : ∀ t : Fin grid1.N, cond1_0 (grid1.coords t) ↔ t.val % 6 = 0)

/-! ## The kernel body on any staging memrefs: a subtype the run finds -/

/-- One staging buffer of output window 3, through which its contents are stated (`View.read_writes_of_cover`: the
    choice does not matter). -/
abbrev VO1_3 : View sig .tc .vmem S1024x1024 .bf16 := (Memref.whole cc1_stg3_0 : Memref sig .tc .vmem S1024x1024 .bf16).view
/-- Each window's current staging memref at point `t`, spelled as the pipeline passes it (`bodyAt1`), and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S1024x4096 .bf16 := Memref.whole cc1_scratch0
/-- The scratch `arg6` the kernel carries between points, as a view: what it holds is stated through it. -/
abbrev VS1_0 : View sig .tc .vmem S1024x4096 .bf16 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- The scoped buffers of the region that the kernel does not touch, each at some contents. -/
def rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- `ΦA` taken apart: the scratch at some contents, the untouched scoped buffers, the generator register; -/
theorem PhiA1_in (c : Dev nD) : (Pipeline.ΦA spec1 c : sProp 𝕄) ⊢ iprop(iprop((∃ d, owns (c : Thread nD τ) scM1_0 fullShare d) ∗ rest1 (F := F) c) ∗ (∃ r, prngReg c r)) := by
  rw [PhiA1_eq]; unfold rest1
  iintro ⟨⟨HR0, HR1, HR2, HR3, HR4, HR5, HR6, HR7, HR8, HR9, HS0⟩, Hg⟩
  isplitr [Hg]; swap; · iexact Hg
  isplitl [HS0]; · iexact HS0
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  iexact HR9

/-- and put together again. -/
theorem PhiA1_out (c : Dev nD) : (iprop(iprop((∃ d, owns (c : Thread nD τ) scM1_0 fullShare d) ∗ rest1 (F := F) c) ∗ (∃ r, prngReg c r)) : sProp 𝕄) ⊢ Pipeline.ΦA spec1 c := by
  rw [PhiA1_eq]; unfold rest1
  iintro ⟨⟨HS0, HR0, HR1, HR2, HR3, HR4, HR5, HR6, HR7, HR8, HR9⟩, Hg⟩
  isplitr [Hg]; swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  iexact HS0

-- (the run's proof term is large: the definition's epilogue — `abstractNestedProofs` — walks it past the default budget)
set_option backward.proofsInPublic true in
set_option maxHeartbeats 1000000 in
/-- What the body's stores leave in each output's staging memref, as pieces (last first) IN CASE A (`scf.if` 0 taken: points 0, 6, … 78: 14 of 84), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : cond1_0 i)
    (x0 : Vec F S1024x4096 .bf16) (x1 : Vec F S1024x2048 .i8) (x2 : Vec F S1024x128 .f32) :
    Σ' (L3 : List (View.Piece (Elt F) S1024x1024 .bf16)), { LS0 : List (View.Piece (Elt F) S1024x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_mm i arg2 harg2 arg3 harg3 arg4 harg4 arg5 harg5 arg6 harg6) K } := by
  refine ⟨?_, ?_, fun E K => ?run⟩
  case run =>
    simp only [cc1_mm_eq_skeleton]; unfold cc1_mm_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    have hrd0 : ∀ (𝒱 : Variants) (c : Dev nD) (bd : Option 𝒱.V) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (k1_h1 : k1_cond1 i = 1#1) (X_arg3 : BufTy.Contents (Elt F) arg3.view.ty) (X_arg4 : BufTy.Contents (Elt F) arg4.view.ty) (hrdF : BufTy.Contents (Elt F) arg6.view.ty) (hrdB : LoadRect S1024x4096), arg6.view.readAt (Elt F) hrdB (arg6.view.writes (Elt F) hrdF (pb_k1_t1 (F := F) 𝒱 c bd i arg2 harg2 arg3 harg3 arg4 harg4 arg5 harg5 arg6 harg6 k1_h1 X_arg3 X_arg4 (Scf.trips k1_t1_loop.lb k1_t1_loop.ub k1_t1_loop.st))) = arg6.view.readCov (pb_k1_t1 (F := F) 𝒱 c bd i arg2 harg2 arg3 harg3 arg4 harg4 arg5 harg5 arg6 harg6 k1_h1 X_arg3 X_arg4 (Scf.trips k1_t1_loop.lb k1_t1_loop.ub k1_t1_loop.st)) hrdB := fun 𝒱 c bd i arg2 harg2 arg3 harg3 arg4 harg4 arg5 harg5 arg6 harg6 k1_h1 X_arg3 X_arg4 hrdF hrdB => View.readAt_writes_of_cover _ hrdF _ hrdB (fun hrdJ => View.cover_of_tiledL (pb_k1_t1 (F := F) 𝒱 c bd i arg2 harg2 arg3 harg3 arg4 harg4 arg5 harg5 arg6 harg6 k1_h1 X_arg3 X_arg4 (Scf.trips k1_t1_loop.lb k1_t1_loop.ub k1_t1_loop.st)) S32x128.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0
-- (the run's proof term is large: the definition's epilogue — `abstractNestedProofs` — walks it past the default budget)
set_option maxHeartbeats 1000000 in
/-- What the body's stores leave in each output's staging memref, as pieces (last first) IN CASE B (`scf.if` 0 not taken: points 1, 2, … 83: 70 of 84), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : ¬cond1_0 i)
    (x0 : Vec F S1024x4096 .bf16) (x1 : Vec F S1024x2048 .i8) (x2 : Vec F S1024x128 .f32) (xs0 : Vec F S1024x4096 .bf16) :
    Σ' (L3 : List (View.Piece (Elt F) S1024x1024 .bf16)), { LS0 : List (View.Piece (Elt F) S1024x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0) -∗ K ⟨⟩))
          ⊢ wp frame (wpE (defs₀ (F := F)) Variants.none c none) E (cc1_mm i arg2 harg2 arg3 harg3 arg4 harg4 arg5 harg5 arg6 harg6) K } := by
  refine ⟨?_, [], fun E K => ?run⟩
  case run =>
    simp only [cc1_mm_eq_skeleton]; unfold cc1_mm_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0
/-- Case A's pieces for output 3 tile its block (1 store of `S1024x1024`, checked by the kernel's evaluation: Lib/Ring.lean `Piece.tiledL`, linear in the pieces, through a loop's `@[irreducible]` trip theorem too), so they cover it. -/
theorem cover1_A_3 (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : cond1_0 i)
    (x0 : Vec F S1024x4096 .bf16) (x1 : Vec F S1024x2048 .i8) (x2 : Vec F S1024x128 .f32) (y : S1024x1024.Idx) :
    ∃ pc ∈ (kernelRun1_A c i arg2 harg2 arg3 harg3 arg4 harg4 arg5 harg5 arg6 harg6 hc0 x0 x1 x2).1, y ∈ pc.1.set :=
  View.cover_of_tiledL (kernelRun1_A c i arg2 harg2 arg3 harg3 arg4 harg4 arg5 harg5 arg6 harg6 hc0 x0 x1 x2).1 S1024x1024.size (by sl_kernel_rfl) y

/-- What case A leaves in output 3's staging buffer: its pieces read back over junk. -/
def out1_A_3 (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : cond1_0 i)
    (x0 : Vec F S1024x4096 .bf16) (x1 : Vec F S1024x2048 .i8) (x2 : Vec F S1024x128 .f32) : Vec F S1024x1024 .bf16 :=
  VO1_3.read (Elt F) (VO1_3.writes (Elt F) VO1_3.junk (kernelRun1_A c i arg2 harg2 arg3 harg3 arg4 harg4 arg5 harg5 arg6 harg6 hc0 x0 x1 x2).1)

/-- Case A's pieces for scratch `arg6`, which the kernel carries between points, cover it: 1024 pieces of `S32x128` tiling it (Lib/Ring.lean `Piece.tiledL`). -/
theorem scover1_A_0 (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : cond1_0 i)
    (x0 : Vec F S1024x4096 .bf16) (x1 : Vec F S1024x2048 .i8) (x2 : Vec F S1024x128 .f32) (y : S1024x4096.Idx) :
    ∃ pc ∈ (kernelRun1_A c i arg2 harg2 arg3 harg3 arg4 harg4 arg5 harg5 arg6 harg6 hc0 x0 x1 x2).2.1, y ∈ pc.1.set :=
  View.cover_of_tiledL (kernelRun1_A c i arg2 harg2 arg3 harg3 arg4 harg4 arg5 harg5 arg6 harg6 hc0 x0 x1 x2).2.1 S32x128.size (by sl_kernel_rfl) y

/-- What case A leaves in scratch `arg6`: its pieces read back over junk. -/
def sout1_A_0 (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : cond1_0 i)
    (x0 : Vec F S1024x4096 .bf16) (x1 : Vec F S1024x2048 .i8) (x2 : Vec F S1024x128 .f32) : Vec F S1024x4096 .bf16 :=
  VS1_0.read (Elt F) (VS1_0.writes (Elt F) VS1_0.junk (kernelRun1_A c i arg2 harg2 arg3 harg3 arg4 harg4 arg5 harg5 arg6 harg6 hc0 x0 x1 x2).2.1)

/-- Case B's pieces for output 3 tile its block (1 store of `S1024x1024`, checked by the kernel's evaluation: Lib/Ring.lean `Piece.tiledL`, linear in the pieces, through a loop's `@[irreducible]` trip theorem too), so they cover it. -/
theorem cover1_B_3 (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : ¬cond1_0 i)
    (x0 : Vec F S1024x4096 .bf16) (x1 : Vec F S1024x2048 .i8) (x2 : Vec F S1024x128 .f32) (xs0 : Vec F S1024x4096 .bf16) (y : S1024x1024.Idx) :
    ∃ pc ∈ (kernelRun1_B c i arg2 harg2 arg3 harg3 arg4 harg4 arg5 harg5 arg6 harg6 hc0 x0 x1 x2 xs0).1, y ∈ pc.1.set :=
  View.cover_of_tiledL (kernelRun1_B c i arg2 harg2 arg3 harg3 arg4 harg4 arg5 harg5 arg6 harg6 hc0 x0 x1 x2 xs0).1 S1024x1024.size (by sl_kernel_rfl) y

/-- What case B leaves in output 3's staging buffer: its pieces read back over junk. -/
def out1_B_3 (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : ¬cond1_0 i)
    (x0 : Vec F S1024x4096 .bf16) (x1 : Vec F S1024x2048 .i8) (x2 : Vec F S1024x128 .f32) (xs0 : Vec F S1024x4096 .bf16) : Vec F S1024x1024 .bf16 :=
  VO1_3.read (Elt F) (VO1_3.writes (Elt F) VO1_3.junk (kernelRun1_B c i arg2 harg2 arg3 harg3 arg4 harg4 arg5 harg5 arg6 harg6 hc0 x0 x1 x2 xs0).1)

/-- Case B stores nothing into scratch `arg6`: it holds what the point before left. -/
def sout1_B_0 (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : ¬cond1_0 i)
    (x0 : Vec F S1024x4096 .bf16) (x1 : Vec F S1024x2048 .i8) (x2 : Vec F S1024x128 .f32) (xs0 : Vec F S1024x4096 .bf16) : Vec F S1024x4096 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x1024 .bf16 × Vec F S1024x4096 .bf16
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 6 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 6 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 6 = 0) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 3200000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    after1_0, after1_1, after1_2, after1_3]
  rw [show (dat1 V c).Φ t.succ = PhiS1 V c (t.val + 1) t.isLt from rfl, PhiS1_succ]
  have hN : t.val < 84 := lt_of_lt_of_eq t.isLt (show cfg1.N = 84 from N_1)
  by_cases h0 : t.val % 6 = 0
  · by_cases hz : t.val = 0
    · rw [PhiS1_castSucc V c t, PhiS1_zero V c _ _ hz]
      rw [outsAt1_A V c t h0]
      unfold out1_A_3 sout1_A_0; (try dsimp only)
      iintro ⟨HΦ, Ho, ⟨%d0, H0⟩, ⟨%d1, H1⟩, ⟨%d2, H2⟩, ⟨%d3, H3⟩⟩
      ihave HA := (PhiA1_in c) $$ HΦ
      icases HA with ⟨⟨HS0, HR⟩, Hg⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitr [HR]; swap; · iexact HR
          unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
    · rw [PhiS1_castSucc V c t, PhiS1_pos V c _ _ hz]
      rw [outsAt1_A V c t h0]
      unfold out1_A_3 sout1_A_0; (try dsimp only)
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 HR Hg]
      · isplitl [HS0 HR]
        · isplitr [HR]; swap; · iexact HR
          unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
  · by_cases hz : t.val = 0
    · exfalso; have hN : t.val < 84 := lt_of_lt_of_eq t.isLt (show cfg1.N = 84 from N_1); omega
    · rw [PhiS1_castSucc V c t, PhiS1_pos V c _ _ hz]
      rw [outsAt1_B V c t h0]
      unfold out1_B_3 sout1_B_0; (try dsimp only)
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, HS0⟩
      isplitl [HS0 HR Hg]
      · isplitl [HS0 HR]
        · isplitr [HR]; swap; · iexact HR
          iexact HS0
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_out c)
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 84 := N_1; omega)

end Cert.Kernel.Whole

end
-- ==== Proof.Kernel.Run.lean ====
/- The whole program's run: @main as its five segments (a reshape; the region `quant`; a constant; the pad of the
   scales; the region `mm`), the buffers' contents at each boundary, the two regions as segment records, and the launch. -/
module

public import proofs.«01_k».proof.Proof.Kernel.Quant
public import proofs.«01_k».proof.Proof.Kernel.Mm

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_c]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_v2]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1` (region 1's entry). -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- The same read at the TensorCore's references (what region 1's proof data take). -/
abbrev V4 : (c : Dev nD) → (b : Ref sig .tc) → Buf (Elt F) ((c : Thread nD τ).loc b) := fun c b => W4 m ρ c b
/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V4 m ρ) c); unfold Pipeline.ΦA
    iintro ⟨Hp, -, Hr⟩
    isplitl [Hr]; · iexact Hr
    iexact Hp
  hout c := by
    rw [Pipeline.ownSems0_none]; refine (hout1 (V4 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates, nothing
    faulting, and every final state has every unscoped buffer at the last boundary's contents `W5` and every semaphore
    counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: every argument array ends as launched, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run m ρ)

end Cert.Kernel.Whole

end
-- ==== Proof.KernelIdeal.Quant.lean ====
/- The first kernel region of the program, `quant` (48 points of 128 rows): the body's run on any staging
   buffers, what it leaves in each output, the pipeline's proof data and its body obligation, stated at the contents `V`
   with which the region is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0_quant` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 1, through which its contents are stated (`View.read_writes_of_cover`: the
    choice does not matter). -/
abbrev VO0_1 : View sig .tc .vmem S128x4096 .bf16 := (Memref.whole cc0_stg1_0 : Memref sig .tc .vmem S128x4096 .bf16).view
/-- One staging buffer of output window 2, through which its contents are stated (`View.read_writes_of_cover`: the
    choice does not matter). -/
abbrev VO0_2 : View sig .tc .vmem S128x2048 .i8 := (Memref.whole cc0_stg2_0 : Memref sig .tc .vmem S128x2048 .i8).view
/-- One staging buffer of output window 3, through which its contents are stated (`View.read_writes_of_cover`: the
    choice does not matter). -/
abbrev VO0_3 : View sig .tc .vmem S128x32 .f32 := (Memref.whole cc0_stg3_0 : Memref sig .tc .vmem S128x32 .f32).view
/-- One staging buffer of output window 4, through which its contents are stated (`View.read_writes_of_cover`: the
    choice does not matter). -/
abbrev VO0_4 : View sig .tc .vmem S128x32 .i8 := (Memref.whole cc0_stg4_0 : Memref sig .tc .vmem S128x32 .i8).view
/-- Each window's current staging memref at point `t`, spelled as the pipeline passes it (`bodyAt0`), and its wholeness. -/
abbrev ms0_0 (t : Fin cfg0.N) : Memref sig .tc .vmem S128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x32 .i8 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) :
    Σ' (L1 : List (View.Piece (Elt F) S128x4096 .bf16)), Σ' (L2 : List (View.Piece (Elt F) S128x2048 .i8)), Σ' (L3 : List (View.Piece (Elt F) S128x32 .f32)), { L4 : List (View.Piece (Elt F) S128x32 .i8) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_quant i arg1 harg1 arg2 harg2 arg3 harg3 arg4 harg4 arg5 harg5) K } := by
  refine ⟨?_, ?_, ?_, ?_, fun E K => ?run⟩
  case run =>
    simp only [cc0_quant_eq_skeleton]; unfold cc0_quant_skel
    unfold owns
    iintro ⟨⟨%f0, %hf0, H0⟩, ⟨%d1, %f1, -, H1⟩, ⟨%d2, %f2, -, H2⟩, ⟨%d3, %f3, -, H3⟩, ⟨%d4, %f4, -, H4⟩, Hk⟩
    obtain rfl := harg1.eq_unread hf0
    sl_exec
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    iexists _; iexact H4

/-- The run's pieces for output 1 tile its block (128 stores of `S32x128`, checked by the kernel's evaluation: Lib/Ring.lean `Piece.tiledL`, linear in the pieces, through a loop's `@[irreducible]` trip theorem too), so they cover it. -/
theorem cover0_A_1 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) (y : S128x4096.Idx) :
    ∃ pc ∈ (kernelRun0_A c i arg1 harg1 arg2 harg2 arg3 harg3 arg4 harg4 arg5 harg5 x0).1, y ∈ pc.1.set :=
  View.cover_of_tiledL (kernelRun0_A c i arg1 harg1 arg2 harg2 arg3 harg3 arg4 harg4 arg5 harg5 x0).1 S32x128.size (by sl_kernel_rfl) y

/-- What the run leaves in output 1's staging buffer: its pieces read back over junk. -/
def out0_A_1 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) : Vec F S128x4096 .bf16 :=
  VO0_1.read (Elt F) (VO0_1.writes (Elt F) VO0_1.junk (kernelRun0_A c i arg1 harg1 arg2 harg2 arg3 harg3 arg4 harg4 arg5 harg5 x0).1)

/-- The run's pieces for output 2 tile its block (64 stores of `S32x128`, checked by the kernel's evaluation: Lib/Ring.lean `Piece.tiledL`, linear in the pieces, through a loop's `@[irreducible]` trip theorem too), so they cover it. -/
theorem cover0_A_2 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) (y : S128x2048.Idx) :
    ∃ pc ∈ (kernelRun0_A c i arg1 harg1 arg2 harg2 arg3 harg3 arg4 harg4 arg5 harg5 x0).2.1, y ∈ pc.1.set :=
  View.cover_of_tiledL (kernelRun0_A c i arg1 harg1 arg2 harg2 arg3 harg3 arg4 harg4 arg5 harg5 x0).2.1 S32x128.size (by sl_kernel_rfl) y

/-- What the run leaves in output 2's staging buffer: its pieces read back over junk. -/
def out0_A_2 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) : Vec F S128x2048 .i8 :=
  VO0_2.read (Elt F) (VO0_2.writes (Elt F) VO0_2.junk (kernelRun0_A c i arg1 harg1 arg2 harg2 arg3 harg3 arg4 harg4 arg5 harg5 x0).2.1)

/-- The run's pieces for output 3 tile its block (4 stores of `S32x32`, checked by the kernel's evaluation: Lib/Ring.lean `Piece.tiledL`, linear in the pieces, through a loop's `@[irreducible]` trip theorem too), so they cover it. -/
theorem cover0_A_3 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) (y : S128x32.Idx) :
    ∃ pc ∈ (kernelRun0_A c i arg1 harg1 arg2 harg2 arg3 harg3 arg4 harg4 arg5 harg5 x0).2.2.1, y ∈ pc.1.set :=
  View.cover_of_tiledL (kernelRun0_A c i arg1 harg1 arg2 harg2 arg3 harg3 arg4 harg4 arg5 harg5 x0).2.2.1 S32x32.size (by sl_kernel_rfl) y

/-- What the run leaves in output 3's staging buffer: its pieces read back over junk. -/
def out0_A_3 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) : Vec F S128x32 .f32 :=
  VO0_3.read (Elt F) (VO0_3.writes (Elt F) VO0_3.junk (kernelRun0_A c i arg1 harg1 arg2 harg2 arg3 harg3 arg4 harg4 arg5 harg5 x0).2.2.1)

/-- The run's pieces for output 4 tile its block (4 stores of `S32x32`, checked by the kernel's evaluation: Lib/Ring.lean `Piece.tiledL`, linear in the pieces, through a loop's `@[irreducible]` trip theorem too), so they cover it. -/
theorem cover0_A_4 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) (y : S128x32.Idx) :
    ∃ pc ∈ (kernelRun0_A c i arg1 harg1 arg2 harg2 arg3 harg3 arg4 harg4 arg5 harg5 x0).2.2.2.1, y ∈ pc.1.set :=
  View.cover_of_tiledL (kernelRun0_A c i arg1 harg1 arg2 harg2 arg3 harg3 arg4 harg4 arg5 harg5 x0).2.2.2.1 S32x32.size (by sl_kernel_rfl) y

/-- What the run leaves in output 4's staging buffer: its pieces read back over junk. -/
def out0_A_4 (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
    (x0 : Vec F S128x4096 .bf16) : Vec F S128x32 .i8 :=
  VO0_4.read (Elt F) (VO0_4.writes (Elt F) VO0_4.junk (kernelRun0_A c i arg1 harg1 arg2 harg2 arg3 harg3 arg4 harg4 arg5 harg5 x0).2.2.2.1)

/-! ## What the outputs hold after each point -/

/-- What the outputs' staging buffers hold after the body at point `t` (as a tuple, in window order): the run's contents at
    the point's memrefs and input blocks. -/
def outsAt0 (c : Dev nD) (t : Fin cfg0.N) : Vec F S128x4096 .bf16 × Vec F S128x2048 .i8 × Vec F S128x32 .f32 × Vec F S128x32 .i8 :=
  (out0_A_1 c (grid0.coords t) (ms0_0 t) (hs0_0 t) (ms0_1 t) (hs0_1 t) (ms0_2 t) (hs0_2 t) (ms0_3 t) (hs0_3 t) (ms0_4 t) (hs0_4 t) (iblk0 V c 0 t), out0_A_2 c (grid0.coords t) (ms0_0 t) (hs0_0 t) (ms0_1 t) (hs0_1 t) (ms0_2 t) (hs0_2 t) (ms0_3 t) (hs0_3 t) (ms0_4 t) (hs0_4 t) (iblk0 V c 0 t), out0_A_3 c (grid0.coords t) (ms0_0 t) (hs0_0 t) (ms0_1 t) (hs0_1 t) (ms0_2 t) (hs0_2 t) (ms0_3 t) (hs0_3 t) (ms0_4 t) (hs0_4 t) (iblk0 V c 0 t), out0_A_4 c (grid0.coords t) (ms0_0 t) (hs0_0 t) (ms0_1 t) (hs0_1 t) (ms0_2 t) (hs0_2 t) (ms0_3 t) (hs0_3 t) (ms0_4 t) (hs0_4 t) (iblk0 V c 0 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t).1
    | ⟨2, _⟩ => (outsAt0 V c t).2.1
    | ⟨3, _⟩ => (outsAt0 V c t).2.2.1
    | ⟨4, _⟩ => (outsAt0 V c t).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t).1 := by dsimp only [dat0]
theorem after0_2 (c : Dev nD) (t : Fin cfg0.N) : (dat0 V c).after 2 t = (outsAt0 V c t).2.1 := by dsimp only [dat0]
theorem after0_3 (c : Dev nD) (t : Fin cfg0.N) : (dat0 V c).after 3 t = (outsAt0 V c t).2.2.1 := by dsimp only [dat0]
theorem after0_4 (c : Dev nD) (t : Fin cfg0.N) : (dat0 V c).after 4 t = (outsAt0 V c t).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_1 out0_A_2 out0_A_3 out0_A_4; (try dsimp only)
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk0 V c 0 t)).2.2.2.2 Set.univ _)
  isplitl [H0]; · iexact H0
  isplitl [H1]; · iexists _; iexact H1
  isplitl [H2]; · iexists _; iexact H2
  isplitl [H3]; · iexists _; iexact H3
  isplitl [H4]; · iexists _; iexact H4
  iintro ⟨H0, ⟨%e1, H1⟩, ⟨%e2, H2⟩, ⟨%e3, H3⟩, ⟨%e4, H4⟩⟩
  isplitl [HΦ]; · iexact HΦ
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _ _ _ _ _)
  isplitl [H2]
  · unfold owns; iexists _; isplitr
    swap; · iexact H2
    ipureintro; exact View.read_writes_of_cover _ _ _ _ _ (cover0_A_2 c _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _)
  unfold owns; iexists _; isplitr
  swap; · iexact H4
  ipureintro; exact View.read_writes_of_cover _ _ _ _ _ (cover0_A_4 c _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.KernelIdeal.Mm.lean ====
/- The second kernel region of the program, `mm` (14 × 6 points): at the first point of each row of the grid the
   weight tile is dequantised into a scratch buffer, which the other five points read. The body's run in both cases, what
   it leaves in the output and in the scratch point by point, the proof data (an invariant that names the scratch's
   contents) and the body obligation, at the contents `V` with which the region is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1_mm` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 6) — by arithmetic of the point. -/
theorem hcond1_0 : ∀ t : Fin cfg1.N, cond1_0 (grid1.coords t) ↔ t.val % 6 = 0 :=
  (fun t => by
    have ht : t.val < 84 := Nat.lt_of_lt_of_eq t.isLt N_1
    have e0 : (grid1.coords t 0).val = t.val / 6 % 14 := Pipeline.Grid.coords_val t 0 (by decide) rfl
    have e1 : (grid1.coords t 1).val = t.val / 1 % 6 := Pipeline.Grid.coords_val t 1 (by decide) rfl
    simp only [cond1_0, k1_cond1, e0, e1]
    word_cmp
   : ∀ t : Fin grid1.N, cond1_0 (grid1.coords t) ↔ t.val % 6 = 0)

/-! ## The kernel body on any staging memrefs: a subtype the run finds -/

/-- One staging buffer of output window 3, through which its contents are stated (`View.read_writes_of_cover`: the
    choice does not matter). -/
abbrev VO1_3 : View sig .tc .vmem S1024x1024 .bf16 := (Memref.whole cc1_stg3_0 : Memref sig .tc .vmem S1024x1024 .bf16).view
/-- Each window's current staging memref at point `t`, spelled as the pipeline passes it (`bodyAt1`), and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S1024x4096 .bf16 := Memref.whole cc1_scratch0
/-- The scratch `arg6` the kernel carries between points, as a view: what it holds is stated through it. -/
abbrev VS1_0 : View sig .tc .vmem S1024x4096 .bf16 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- The scoped buffers of the region that the kernel does not touch, each at some contents. -/
def rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- `ΦA` taken apart: the scratch at some contents, the untouched scoped buffers, the generator register; -/
theorem PhiA1_in (c : Dev nD) : (Pipeline.ΦA spec1 c : sProp 𝕄) ⊢ iprop(iprop((∃ d, owns (c : Thread nD τ) scM1_0 fullShare d) ∗ rest1 (F := F) c) ∗ (∃ r, prngReg c r)) := by
  rw [PhiA1_eq]; unfold rest1
  iintro ⟨⟨HR0, HR1, HR2, HR3, HR4, HR5, HR6, HR7, HR8, HR9, HS0⟩, Hg⟩
  isplitr [Hg]; swap; · iexact Hg
  isplitl [HS0]; · iexact HS0
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  iexact HR9

/-- and put together again. -/
theorem PhiA1_out (c : Dev nD) : (iprop(iprop((∃ d, owns (c : Thread nD τ) scM1_0 fullShare d) ∗ rest1 (F := F) c) ∗ (∃ r, prngReg c r)) : sProp 𝕄) ⊢ Pipeline.ΦA spec1 c := by
  rw [PhiA1_eq]; unfold rest1
  iintro ⟨⟨HS0, HR0, HR1, HR2, HR3, HR4, HR5, HR6, HR7, HR8, HR9⟩, Hg⟩
  isplitr [Hg]; swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  iexact HS0

-- (the run's proof term is large: the definition's epilogue — `abstractNestedProofs` — walks it past the default budget)
set_option backward.proofsInPublic true in
set_option maxHeartbeats 1000000 in
/-- What the body's stores leave in each output's staging memref, as pieces (last first) IN CASE A (`scf.if` 0 taken: points 0, 6, … 78: 14 of 84), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : cond1_0 i)
    (x0 : Vec F S1024x4096 .bf16) (x1 : Vec F S1024x2048 .i8) (x2 : Vec F S1024x128 .f32) :
    Σ' (L3 : List (View.Piece (Elt F) S1024x1024 .bf16)), { LS0 : List (View.Piece (Elt F) S1024x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_mm i arg2 harg2 arg3 harg3 arg4 harg4 arg5 harg5 arg6 harg6) K } := by
  refine ⟨?_, ?_, fun E K => ?run⟩
  case run =>
    simp only [cc1_mm_eq_skeleton]; unfold cc1_mm_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    have hrd0 : ∀ (𝒱 : Variants) (c : Dev nD) (bd : Option 𝒱.V) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (k1_h1 : k1_cond1 i = 1#1) (X_arg3 : BufTy.Contents (Elt F) arg3.view.ty) (X_arg4 : BufTy.Contents (Elt F) arg4.view.ty) (hrdF : BufTy.Contents (Elt F) arg6.view.ty) (hrdB : LoadRect S1024x4096), arg6.view.readAt (Elt F) hrdB (arg6.view.writes (Elt F) hrdF (pb_k1_t1 (F := F) 𝒱 c bd i arg2 harg2 arg3 harg3 arg4 harg4 arg5 harg5 arg6 harg6 k1_h1 X_arg3 X_arg4 (Scf.trips k1_t1_loop.lb k1_t1_loop.ub k1_t1_loop.st))) = arg6.view.readCov (pb_k1_t1 (F := F) 𝒱 c bd i arg2 harg2 arg3 harg3 arg4 harg4 arg5 harg5 arg6 harg6 k1_h1 X_arg3 X_arg4 (Scf.trips k1_t1_loop.lb k1_t1_loop.ub k1_t1_loop.st)) hrdB := fun 𝒱 c bd i arg2 harg2 arg3 harg3 arg4 harg4 arg5 harg5 arg6 harg6 k1_h1 X_arg3 X_arg4 hrdF hrdB => View.readAt_writes_of_cover _ hrdF _ hrdB (fun hrdJ => View.cover_of_tiledL (pb_k1_t1 (F := F) 𝒱 c bd i arg2 harg2 arg3 harg3 arg4 harg4 arg5 harg5 arg6 harg6 k1_h1 X_arg3 X_arg4 (Scf.trips k1_t1_loop.lb k1_t1_loop.ub k1_t1_loop.st)) S32x128.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0
-- (the run's proof term is large: the definition's epilogue — `abstractNestedProofs` — walks it past the default budget)
set_option maxHeartbeats 1000000 in
/-- What the body's stores leave in each output's staging memref, as pieces (last first) IN CASE B (`scf.if` 0 not taken: points 1, 2, … 83: 70 of 84), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : ¬cond1_0 i)
    (x0 : Vec F S1024x4096 .bf16) (x1 : Vec F S1024x2048 .i8) (x2 : Vec F S1024x128 .f32) (xs0 : Vec F S1024x4096 .bf16) :
    Σ' (L3 : List (View.Piece (Elt F) S1024x1024 .bf16)), { LS0 : List (View.Piece (Elt F) S1024x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0) -∗ K ⟨⟩))
          ⊢ wp frame (wpE (defs₀ (F := F)) Variants.none c none) E (cc1_mm i arg2 harg2 arg3 harg3 arg4 harg4 arg5 harg5 arg6 harg6) K } := by
  refine ⟨?_, [], fun E K => ?run⟩
  case run =>
    simp only [cc1_mm_eq_skeleton]; unfold cc1_mm_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0
/-- Case A's pieces for output 3 tile its block (1 store of `S1024x1024`, checked by the kernel's evaluation: Lib/Ring.lean `Piece.tiledL`, linear in the pieces, through a loop's `@[irreducible]` trip theorem too), so they cover it. -/
theorem cover1_A_3 (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : cond1_0 i)
    (x0 : Vec F S1024x4096 .bf16) (x1 : Vec F S1024x2048 .i8) (x2 : Vec F S1024x128 .f32) (y : S1024x1024.Idx) :
    ∃ pc ∈ (kernelRun1_A c i arg2 harg2 arg3 harg3 arg4 harg4 arg5 harg5 arg6 harg6 hc0 x0 x1 x2).1, y ∈ pc.1.set :=
  View.cover_of_tiledL (kernelRun1_A c i arg2 harg2 arg3 harg3 arg4 harg4 arg5 harg5 arg6 harg6 hc0 x0 x1 x2).1 S1024x1024.size (by sl_kernel_rfl) y

/-- What case A leaves in output 3's staging buffer: its pieces read back over junk. -/
def out1_A_3 (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : cond1_0 i)
    (x0 : Vec F S1024x4096 .bf16) (x1 : Vec F S1024x2048 .i8) (x2 : Vec F S1024x128 .f32) : Vec F S1024x1024 .bf16 :=
  VO1_3.read (Elt F) (VO1_3.writes (Elt F) VO1_3.junk (kernelRun1_A c i arg2 harg2 arg3 harg3 arg4 harg4 arg5 harg5 arg6 harg6 hc0 x0 x1 x2).1)

/-- Case A's pieces for scratch `arg6`, which the kernel carries between points, cover it: 1024 pieces of `S32x128` tiling it (Lib/Ring.lean `Piece.tiledL`). -/
theorem scover1_A_0 (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : cond1_0 i)
    (x0 : Vec F S1024x4096 .bf16) (x1 : Vec F S1024x2048 .i8) (x2 : Vec F S1024x128 .f32) (y : S1024x4096.Idx) :
    ∃ pc ∈ (kernelRun1_A c i arg2 harg2 arg3 harg3 arg4 harg4 arg5 harg5 arg6 harg6 hc0 x0 x1 x2).2.1, y ∈ pc.1.set :=
  View.cover_of_tiledL (kernelRun1_A c i arg2 harg2 arg3 harg3 arg4 harg4 arg5 harg5 arg6 harg6 hc0 x0 x1 x2).2.1 S32x128.size (by sl_kernel_rfl) y

/-- What case A leaves in scratch `arg6`: its pieces read back over junk. -/
def sout1_A_0 (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : cond1_0 i)
    (x0 : Vec F S1024x4096 .bf16) (x1 : Vec F S1024x2048 .i8) (x2 : Vec F S1024x128 .f32) : Vec F S1024x4096 .bf16 :=
  VS1_0.read (Elt F) (VS1_0.writes (Elt F) VS1_0.junk (kernelRun1_A c i arg2 harg2 arg3 harg3 arg4 harg4 arg5 harg5 arg6 harg6 hc0 x0 x1 x2).2.1)

/-- Case B's pieces for output 3 tile its block (1 store of `S1024x1024`, checked by the kernel's evaluation: Lib/Ring.lean `Piece.tiledL`, linear in the pieces, through a loop's `@[irreducible]` trip theorem too), so they cover it. -/
theorem cover1_B_3 (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : ¬cond1_0 i)
    (x0 : Vec F S1024x4096 .bf16) (x1 : Vec F S1024x2048 .i8) (x2 : Vec F S1024x128 .f32) (xs0 : Vec F S1024x4096 .bf16) (y : S1024x1024.Idx) :
    ∃ pc ∈ (kernelRun1_B c i arg2 harg2 arg3 harg3 arg4 harg4 arg5 harg5 arg6 harg6 hc0 x0 x1 x2 xs0).1, y ∈ pc.1.set :=
  View.cover_of_tiledL (kernelRun1_B c i arg2 harg2 arg3 harg3 arg4 harg4 arg5 harg5 arg6 harg6 hc0 x0 x1 x2 xs0).1 S1024x1024.size (by sl_kernel_rfl) y

/-- What case B leaves in output 3's staging buffer: its pieces read back over junk. -/
def out1_B_3 (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : ¬cond1_0 i)
    (x0 : Vec F S1024x4096 .bf16) (x1 : Vec F S1024x2048 .i8) (x2 : Vec F S1024x128 .f32) (xs0 : Vec F S1024x4096 .bf16) : Vec F S1024x1024 .bf16 :=
  VO1_3.read (Elt F) (VO1_3.writes (Elt F) VO1_3.junk (kernelRun1_B c i arg2 harg2 arg3 harg3 arg4 harg4 arg5 harg5 arg6 harg6 hc0 x0 x1 x2 xs0).1)

/-- Case B stores nothing into scratch `arg6`: it holds what the point before left. -/
def sout1_B_0 (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (hc0 : ¬cond1_0 i)
    (x0 : Vec F S1024x4096 .bf16) (x1 : Vec F S1024x2048 .i8) (x2 : Vec F S1024x128 .f32) (xs0 : Vec F S1024x4096 .bf16) : Vec F S1024x4096 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x1024 .bf16 × Vec F S1024x4096 .bf16
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 6 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 6 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 6 = 0) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 3200000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    after1_0, after1_1, after1_2, after1_3]
  rw [show (dat1 V c).Φ t.succ = PhiS1 V c (t.val + 1) t.isLt from rfl, PhiS1_succ]
  have hN : t.val < 84 := lt_of_lt_of_eq t.isLt (show cfg1.N = 84 from N_1)
  by_cases h0 : t.val % 6 = 0
  · by_cases hz : t.val = 0
    · rw [PhiS1_castSucc V c t, PhiS1_zero V c _ _ hz]
      rw [outsAt1_A V c t h0]
      unfold out1_A_3 sout1_A_0; (try dsimp only)
      iintro ⟨HΦ, Ho, ⟨%d0, H0⟩, ⟨%d1, H1⟩, ⟨%d2, H2⟩, ⟨%d3, H3⟩⟩
      ihave HA := (PhiA1_in c) $$ HΦ
      icases HA with ⟨⟨HS0, HR⟩, Hg⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitr [HR]; swap; · iexact HR
          unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
    · rw [PhiS1_castSucc V c t, PhiS1_pos V c _ _ hz]
      rw [outsAt1_A V c t h0]
      unfold out1_A_3 sout1_A_0; (try dsimp only)
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 HR Hg]
      · isplitl [HS0 HR]
        · isplitr [HR]; swap; · iexact HR
          unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
  · by_cases hz : t.val = 0
    · exfalso; have hN : t.val < 84 := lt_of_lt_of_eq t.isLt (show cfg1.N = 84 from N_1); omega
    · rw [PhiS1_castSucc V c t, PhiS1_pos V c _ _ hz]
      rw [outsAt1_B V c t h0]
      unfold out1_B_3 sout1_B_0; (try dsimp only)
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, HS0⟩
      isplitl [HS0 HR Hg]
      · isplitl [HS0 HR]
        · isplitr [HR]; swap; · iexact HR
          iexact HS0
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_out c)
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 84 := N_1; omega)

end Cert.KernelIdeal.Whole

end
-- ==== Proof.KernelIdeal.Run.lean ====
/- The whole program's run: @main as its five segments (a reshape; the region `quant`; a constant; the pad of the
   scales; the region `mm`), the buffers' contents at each boundary, the two regions as segment records, and the launch. -/
module

public import proofs.«01_k».proof.Proof.KernelIdeal.Quant
public import proofs.«01_k».proof.Proof.KernelIdeal.Mm

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_c]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_v2]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1` (region 1's entry). -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- The same read at the TensorCore's references (what region 1's proof data take). -/
abbrev V4 : (c : Dev nD) → (b : Ref sig .tc) → Buf (Elt F) ((c : Thread nD τ).loc b) := fun c b => W4 m ρ c b
/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V4 m ρ) c); unfold Pipeline.ΦA
    iintro ⟨Hp, -, Hr⟩
    isplitl [Hr]; · iexact Hr
    iexact Hp
  hout c := by
    rw [Pipeline.ownSems0_none]; refine (hout1 (V4 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates, nothing
    faulting, and every final state has every unscoped buffer at the last boundary's contents `W5` and every semaphore
    counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: every argument array ends as launched, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run m ρ)

end Cert.KernelIdeal.Whole

end
-- ==== Proof.KernelIdeal.Chunk.lean ====
module

public import proofs.«01_k».proof.Proof.KernelIdeal.Run
public import Idealize.ShloMosaic.Lib.Pointwise
public import Idealize.ShloMosaic.Lib.Tactic.Stretches

/-! What one trip of the quantiser's loop stores, as functions of the activation block it reads. A trip handles 32
    rows, a chunk of it two neighbouring groups of 128 columns; every chunk computes the same functions, which the
    definitions below name once, in the operations of the first chunk. -/

@[expose] public section
noncomputable section
namespace Cert.KernelIdeal.Chunk
open Cert.KernelIdeal.Gen
open Idealize.ShloMosaic Idealize.ShloMosaic.TcCoe Idealize.ShloMosaic.Tactic
variable {F : FTy → Type} [FloatOps F]

/-- The codes of two groups, the first in the low and the second in the high half of each byte. -/
def bothOf (x0 x1 : Vec F S32x128 .bf16) : IVec S32x128 8 := k0_pay25 (k0_pay15 x0) x1

/-- The packed codes of a chunk: each byte an even column's code below the next column's. -/
def codesOf (x0 x1 : Vec F S32x128 .bf16) : IVec S32x128 8 :=
  k0_pay30 k0_pay1 k0_pay2 252645135#32 (bothOf x0 x1)

/-- The dequantised even columns of a chunk. -/
def evenOf (x0 x1 : Vec F S32x128 .bf16) : Vec F S32x128 .bf16 :=
  k0_pay33 k0_pay1 k0_pay2 k0_pay3 252645135#32 (k0_pay13 x0) (k0_pay14 x0) (k0_pay21 x1) (k0_pay22 x1) (bothOf x0 x1)

/-- The dequantised odd columns of a chunk. -/
def oddOf (x0 x1 : Vec F S32x128 .bf16) : Vec F S32x128 .bf16 :=
  k0_pay35 (k0_pay31 k0_pay3 (k0_pay14 x0) (k0_pay22 x1)) (k0_pay32 k0_pay3 (k0_pay13 x0) (k0_pay21 x1))
    (k0_pay34 k0_pay1 k0_pay2 252645135#32 (bothOf x0 x1))

/-- Lane `g` takes column `v g`, for the first `n` lanes. -/
def chain (v : ℕ → FVec F S32x1 .f32) : ℕ → FVec F S32x128 .f32
  | 0 => k0_pay10
  | n + 1 => select (cmpi .eq (iota .tc S32x128 32 [1] iota_S32x128_d1_w32) (broadcast S32x128 (BitVec.ofNat 32 n)))
      (broadcastTo S32x128 (shapeCast S32x1 (v n) shapeCasts_S32x1_S32x1) broadcasts_S32x1_S32x128) (chain v n)

/-- Rows `32 k …` of group `g`'s columns. -/
def blk (x : Vec F S128x4096 .bf16) (k g : ℕ) : Vec F S32x128 .bf16 := fun y =>
  x (ix2 (Fin.ofNat 128 (32 * k + (y 0).val)) (Fin.ofNat 4096 (128 * g + (y 1).val)))

/-- The block a load at row `32 k`, column `128 g` reads. -/
theorem load_eq {κ : Kind} {sp : Space} (v : View sig κ sp S128x4096 .bf16) (X : BufTy.Contents (Elt F) v.ty) {o : Fin 2 → ℕ} {k g : ℕ}
    (h : ∀ a, o a + S32x128.size a ≤ S128x4096.size a) (ho : o = ![32 * k, 128 * g]) :
    v.readAt (Elt F) (Rect.unit (s := S128x4096) o S32x128.size h).toLoadRect X = blk (v.read (Elt F) X) k g := by
  subst ho
  funext y
  refine congrArg (v.read (Elt F) X) (funext fun a => Fin.ext ?_)
  have h0 := h 0
  have h1 := h 1
  have y0 := (y 0).isLt
  have y1 := (y 1).isLt
  match a with
  | ⟨0, _⟩ =>
    show 32 * k + 1 * (y 0).val = (32 * k + (y 0).val) % 128
    change 32 * k + 32 ≤ 128 at h0
    change (y 0).val < 32 at y0
    omega
  | ⟨1, _⟩ =>
    show 128 * g + 1 * (y 1).val = (128 * g + (y 1).val) % 4096
    change 128 * g + 128 ≤ 4096 at h1
    change (y 1).val < 128 at y1
    omega

/-- Where trip `k` reads group `g`, and stores the matching columns of its result. -/
def off (k : Fin k0_t1_loop.trips) : Fin 32 → Σ' o : Fin 2 → ℕ, ∀ a, o a + S32x128.size a ≤ S128x4096.size a := ![
  ⟨k0_off1 k, k0_off1_inb k⟩, ⟨k0_off2 k, k0_off2_inb k⟩, ⟨k0_off4 k, k0_off4_inb k⟩, ⟨k0_off5 k, k0_off5_inb k⟩,
  ⟨k0_off7 k, k0_off7_inb k⟩, ⟨k0_off8 k, k0_off8_inb k⟩, ⟨k0_off10 k, k0_off10_inb k⟩, ⟨k0_off11 k, k0_off11_inb k⟩,
  ⟨k0_off13 k, k0_off13_inb k⟩, ⟨k0_off14 k, k0_off14_inb k⟩, ⟨k0_off16 k, k0_off16_inb k⟩, ⟨k0_off17 k, k0_off17_inb k⟩,
  ⟨k0_off19 k, k0_off19_inb k⟩, ⟨k0_off20 k, k0_off20_inb k⟩, ⟨k0_off22 k, k0_off22_inb k⟩, ⟨k0_off23 k, k0_off23_inb k⟩,
  ⟨k0_off25 k, k0_off25_inb k⟩, ⟨k0_off26 k, k0_off26_inb k⟩, ⟨k0_off28 k, k0_off28_inb k⟩, ⟨k0_off29 k, k0_off29_inb k⟩,
  ⟨k0_off31 k, k0_off31_inb k⟩, ⟨k0_off32 k, k0_off32_inb k⟩, ⟨k0_off34 k, k0_off34_inb k⟩, ⟨k0_off35 k, k0_off35_inb k⟩,
  ⟨k0_off37 k, k0_off37_inb k⟩, ⟨k0_off38 k, k0_off38_inb k⟩, ⟨k0_off40 k, k0_off40_inb k⟩, ⟨k0_off41 k, k0_off41_inb k⟩,
  ⟨k0_off43 k, k0_off43_inb k⟩, ⟨k0_off44 k, k0_off44_inb k⟩, ⟨k0_off46 k, k0_off46_inb k⟩, ⟨k0_off47 k, k0_off47_inb k⟩]

/-- Where a group's block begins. -/
theorem off_eq : ∀ (k : Fin k0_t1_loop.trips) (g : Fin 32), (off k g).1 = ![32 * k.val, 128 * g.val] := by decide +kernel

/-- Where trip `k` stores chunk `c`'s packed codes. -/
def offC (k : Fin k0_t1_loop.trips) : Fin 16 → Σ' o : Fin 2 → ℕ, ∀ a, o a + S32x128.size a ≤ S128x2048.size a := ![
  ⟨k0_off3 k, k0_off3_inb k⟩, ⟨k0_off6 k, k0_off6_inb k⟩, ⟨k0_off9 k, k0_off9_inb k⟩, ⟨k0_off12 k, k0_off12_inb k⟩,
  ⟨k0_off15 k, k0_off15_inb k⟩, ⟨k0_off18 k, k0_off18_inb k⟩, ⟨k0_off21 k, k0_off21_inb k⟩, ⟨k0_off24 k, k0_off24_inb k⟩,
  ⟨k0_off27 k, k0_off27_inb k⟩, ⟨k0_off30 k, k0_off30_inb k⟩, ⟨k0_off33 k, k0_off33_inb k⟩, ⟨k0_off36 k, k0_off36_inb k⟩,
  ⟨k0_off39 k, k0_off39_inb k⟩, ⟨k0_off42 k, k0_off42_inb k⟩, ⟨k0_off45 k, k0_off45_inb k⟩, ⟨k0_off48 k, k0_off48_inb k⟩]

/-- Where a chunk's codes begin. -/
theorem offC_eq : ∀ (k : Fin k0_t1_loop.trips) (c : Fin 16), (offC k c).1 = ![32 * k.val, 128 * c.val] := by decide +kernel

/-- What trip `k` reads of group `g`. -/
def loads {κ : Kind} {sp : Space} (v : View sig κ sp S128x4096 .bf16) (X : BufTy.Contents (Elt F) v.ty) (k : Fin k0_t1_loop.trips) (g : ℕ) :
    Vec F S32x128 .bf16 :=
  v.readAt (Elt F) (Rect.unit (s := S128x4096) (off k (Fin.ofNat 32 g)).1 S32x128.size (off k (Fin.ofNat 32 g)).2).toLoadRect X

/-- What a trip loads of a group. -/
theorem loads_eq {κ : Kind} {sp : Space} (v : View sig κ sp S128x4096 .bf16) (X : BufTy.Contents (Elt F) v.ty) (k : Fin k0_t1_loop.trips) (g : ℕ)
    (hg : g < 32) : loads v X k g = blk (v.read (Elt F) X) k g :=
  load_eq v X _ ((off_eq k _).trans (by rw [Fin.val_ofNat, Nat.mod_eq_of_lt hg]))

/-- The dequantised columns stored in place of group `g`: the even columns of its chunk for even `g`, the odd ones for
    odd `g`. -/
def aOf (x : ℕ → Vec F S32x128 .bf16) (g : ℕ) : Vec F S32x128 .bf16 :=
  if g % 2 = 0 then evenOf (x (2 * (g / 2))) (x (2 * (g / 2) + 1)) else oddOf (x (2 * (g / 2))) (x (2 * (g / 2) + 1))

/-- The dequantised block of 128 rows, even columns before odd ones in each chunk. -/
def acts (x : Vec F S128x4096 .bf16) : Vec F S128x4096 .bf16 := fun j =>
  aOf (blk x ((j 0).val / 32)) ((j 1).val / 128) (ix2 (Fin.ofNat 32 (j 0).val) (Fin.ofNat 128 (j 1).val))

/-- The packed codes of a block of 128 rows. -/
def codes (x : Vec F S128x4096 .bf16) : Vec F S128x2048 .i8 := fun j =>
  codesOf (blk x ((j 0).val / 32) (2 * ((j 1).val / 128))) (blk x ((j 0).val / 32) (2 * ((j 1).val / 128) + 1))
    (ix2 (Fin.ofNat 32 (j 0).val) (Fin.ofNat 128 (j 1).val))

/-- The scales of 32 rows. -/
def scalesOf (x : ℕ → Vec F S32x128 .bf16) : Vec F S32x32 .f32 := k0_pay8 (chain (fun g => k0_pay13 (x g)) 32)
/-- The zero points of 32 rows. -/
def zerosOf (x : ℕ → Vec F S32x128 .bf16) : Vec F S32x32 .i8 := k0_pay9 (chain (fun g => k0_pay14 (x g)) 32)

/-- The scales of a block of 128 rows. -/
def scales (x : Vec F S128x4096 .bf16) : Vec F S128x32 .f32 := fun j =>
  scalesOf (blk x ((j 0).val / 32)) (ix2 (Fin.ofNat 32 (j 0).val) (j 1))
/-- The zero points of a block of 128 rows. -/
def zeros (x : Vec F S128x4096 .bf16) : Vec F S128x32 .i8 := fun j =>
  zerosOf (blk x ((j 0).val / 32)) (ix2 (Fin.ofNat 32 (j 0).val) (j 1))

/-- A chain of selects reads its first entries only. -/
theorem chain_congr {v v' : ℕ → FVec F S32x1 .f32} : ∀ {n : ℕ}, (∀ g < n, v g = v' g) → chain v n = chain v' n
  | 0, _ => rfl
  | n + 1, h => by
    unfold chain
    rw [h n (Nat.lt_succ_self n), chain_congr fun g hg => h g (Nat.lt_succ_of_lt hg)]

section
variable (𝒱 : Variants) (c : Dev nD) (bd : Option 𝒱.V) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
  (X : BufTy.Contents (Elt F) arg1.view.ty) (k : Fin k0_t1_loop.trips)

/-- The lane numbers. -/
abbrev lanes : IVec S32x128 32 := iota .tc S32x128 32 [1] iota_S32x128_d1_w32

/-- A trip's stores of the activations. -/
theorem acts_list : (tripL_k0_t1 𝒱 c bd i arg1 harg1 arg2 harg2 arg3 harg3 arg4 harg4 arg5 harg5 lanes X k).1
    = (List.finRange 32).reverse.map fun g => ⟨Rect.unit (s := S128x4096) (off k g).1 ![32, 128] (off k g).2, aOf (loads arg1.view X k) g.val⟩ := by
  sl_kernel_rfl

/-- A trip's stores of the codes. -/
theorem codes_list : (tripL_k0_t1 𝒱 c bd i arg1 harg1 arg2 harg2 arg3 harg3 arg4 harg4 arg5 harg5 lanes X k).2.1
    = (List.finRange 16).reverse.map fun g => ⟨Rect.unit (s := S128x2048) (offC k g).1 ![32, 128] (offC k g).2,
        codesOf (loads arg1.view X k (2 * g.val)) (loads arg1.view X k (2 * g.val + 1))⟩ := by
  sl_kernel_rfl

/-- A trip's store of the scales. -/
theorem scales_list : (tripL_k0_t1 𝒱 c bd i arg1 harg1 arg2 harg2 arg3 harg3 arg4 harg4 arg5 harg5 lanes X k).2.2.1
    = [⟨Rect.unit (s := S128x32) (k0_off49 k) ![32, 32] (k0_off49_inb k), scalesOf (loads arg1.view X k)⟩] := by
  sl_kernel_rfl

/-- A trip's store of the zero points. -/
theorem zeros_list : (tripL_k0_t1 𝒱 c bd i arg1 harg1 arg2 harg2 arg3 harg3 arg4 harg4 arg5 harg5 lanes X k).2.2.2
    = [⟨Rect.unit (s := S128x32) (k0_off49 k) ![32, 32] (k0_off49_inb k), zerosOf (loads arg1.view X k)⟩] := by
  sl_kernel_rfl
end
end Cert.KernelIdeal.Chunk
end
-- ==== Proof.KernelIdeal.Blocks.lean ====
module

public import proofs.«01_k».proof.Proof.KernelIdeal.Chunk

/-! What the quantiser leaves in each result's block of 128 rows, from the activation block it read: the stores of
    the four trips, each at its place, read back as one function of the block. -/

@[expose] public section
noncomputable section
namespace Cert.KernelIdeal.Chunk
open Cert.KernelIdeal.Gen Cert.KernelIdeal.Whole
open Idealize.ShloMosaic Idealize.ShloMosaic.TcCoe Idealize.ShloMosaic.Tactic
variable {F : FTy → Type} [FloatOps F]

/-- A family of tiles 32 rows high and `q` columns wide, read at a tile's own place. -/
theorem tile_emb {R N q : ℕ} {α : Type} [NeZero q] (B : ℕ → ℕ → (⟨2, ![32, q]⟩ : Shape).Idx → α) {o : Fin 2 → ℕ} {k g : ℕ} (ho : o = ![32 * k, q * g])
    (h : ∀ a, o a + (![32, q] : Fin 2 → ℕ) a ≤ (⟨2, ![R, N]⟩ : Shape).size a) (y : (⟨2, ![32, q]⟩ : Shape).Idx) (hq : 0 < q) :
    (fun j : (⟨2, ![R, N]⟩ : Shape).Idx => B ((j 0).val / 32) ((j 1).val / q) (ix2 (Fin.ofNat 32 (j 0).val) (Fin.ofNat q (j 1).val)))
      ((Rect.unit (s := ⟨2, ![R, N]⟩) o ![32, q] h).emb y) = B k g y := by
  subst ho
  have y0 : (y 0).val < 32 := (y 0).isLt
  have y1 : (y 1).val < q := (y 1).isLt
  have e0 : ((Rect.unit (s := ⟨2, ![R, N]⟩) ![32 * k, q * g] ![32, q] h).emb y 0).val = 32 * k + 1 * (y 0).val := rfl
  have e1 : ((Rect.unit (s := ⟨2, ![R, N]⟩) ![32 * k, q * g] ![32, q] h).emb y 1).val = q * g + 1 * (y 1).val := rfl
  have d1 : (q * g + 1 * (y 1).val) / q = g := by
    rw [one_mul, Nat.mul_add_div hq, Nat.div_eq_of_lt y1, Nat.add_zero]
  dsimp only
  rw [e0, e1, show (32 * k + 1 * (y 0).val) / 32 = k by omega, d1]
  congr 1
  funext a
  apply Fin.ext
  match a with
  | ⟨0, _⟩ => show (32 * k + 1 * (y 0).val) % 32 = (y 0).val; omega
  | ⟨1, _⟩ => show (q * g + 1 * (y 1).val) % q = (y 1).val; rw [one_mul, Nat.mul_add_mod, Nat.mod_eq_of_lt y1]

/-- A chunk's store reads the 32 groups only. -/
theorem aOf_congr {x x' : ℕ → Vec F S32x128 .bf16} {g : ℕ} (hg : g < 32) (h : ∀ g < 32, x g = x' g) : aOf x g = aOf x' g := by
  unfold aOf
  rw [h _ (by omega), h _ (by omega)]

section
variable (𝒱 : Variants) (c : Dev nD) (bd : Option 𝒱.V) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
  (X : BufTy.Contents (Elt F) arg1.view.ty)

/-- What a trip stores of the activations. -/
theorem acts_trip (k : Fin k0_t1_loop.trips) : ∀ p ∈ (tripL_k0_t1 𝒱 c bd i arg1 harg1 arg2 harg2 arg3 harg3 arg4 harg4 arg5 harg5 lanes X k).1,
    ∀ y, p.2 y = acts (arg1.view.read (Elt F) X) (p.1.emb y) := by
  rw [acts_list]
  intro p hp y
  obtain ⟨g, -, rfl⟩ := List.mem_map.1 hp
  refine Eq.trans ?_ (tile_emb (R := 128) (N := 4096) (q := 128) (k := k.val) (g := g.val) (o := (off k g).1) (fun k g => aOf (blk (arg1.view.read (Elt F) X) k) g) (off_eq k g) (off k g).2 y (by decide)).symm
  exact congrFun (aOf_congr g.isLt fun g hg => loads_eq arg1.view X k g hg) y

/-- What a trip stores of the codes. -/
theorem codes_trip (k : Fin k0_t1_loop.trips) : ∀ p ∈ (tripL_k0_t1 𝒱 c bd i arg1 harg1 arg2 harg2 arg3 harg3 arg4 harg4 arg5 harg5 lanes X k).2.1,
    ∀ y, p.2 y = codes (arg1.view.read (Elt F) X) (p.1.emb y) := by
  rw [codes_list]
  intro p hp y
  obtain ⟨g, -, rfl⟩ := List.mem_map.1 hp
  have hg := g.isLt
  refine Eq.trans ?_ (tile_emb (R := 128) (N := 2048) (q := 128) (k := k.val) (g := g.val) (o := (offC k g).1) (fun k g => codesOf (blk (arg1.view.read (Elt F) X) k (2 * g)) (blk (arg1.view.read (Elt F) X) k (2 * g + 1)))
    (offC_eq k g) (offC k g).2 y (by decide)).symm
  dsimp only
  rw [loads_eq _ _ _ _ (by omega), loads_eq _ _ _ _ (by omega)]

/-- What a trip stores of the scales. -/
theorem scales_trip (k : Fin k0_t1_loop.trips) : ∀ p ∈ (tripL_k0_t1 𝒱 c bd i arg1 harg1 arg2 harg2 arg3 harg3 arg4 harg4 arg5 harg5 lanes X k).2.2.1,
    ∀ y, p.2 y = scales (arg1.view.read (Elt F) X) (p.1.emb y) := by
  rw [scales_list]
  intro p hp y
  obtain rfl := List.mem_singleton.1 hp
  have e : scales (arg1.view.read (Elt F) X) = fun j => scalesOf (blk (arg1.view.read (Elt F) X) ((j 0).val / 32)) (ix2 (Fin.ofNat 32 (j 0).val) (Fin.ofNat 32 (j 1).val)) := by
    funext j
    have h1 : (j 1).val < 32 := (j 1).isLt
    unfold scales
    congr 2
    exact Fin.ext (Nat.mod_eq_of_lt h1).symm
  rw [e]
  refine Eq.trans ?_ (tile_emb (R := 128) (N := 32) (q := 32) (k := k.val) (g := 0) (o := k0_off49 k) (fun k _ => scalesOf (blk (arg1.view.read (Elt F) X) k)) (k0_off49_eq k) (k0_off49_inb k) y (by decide)).symm
  dsimp only [scalesOf]
  rw [chain_congr fun g hg => congrArg _ (loads_eq arg1.view X k g hg)]

/-- What a trip stores of the zero points. -/
theorem zeros_trip (k : Fin k0_t1_loop.trips) : ∀ p ∈ (tripL_k0_t1 𝒱 c bd i arg1 harg1 arg2 harg2 arg3 harg3 arg4 harg4 arg5 harg5 lanes X k).2.2.2,
    ∀ y, p.2 y = zeros (arg1.view.read (Elt F) X) (p.1.emb y) := by
  rw [zeros_list]
  intro p hp y
  obtain rfl := List.mem_singleton.1 hp
  have e : zeros (arg1.view.read (Elt F) X) = fun j => zerosOf (blk (arg1.view.read (Elt F) X) ((j 0).val / 32)) (ix2 (Fin.ofNat 32 (j 0).val) (Fin.ofNat 32 (j 1).val)) := by
    funext j
    have h1 : (j 1).val < 32 := (j 1).isLt
    unfold zeros
    congr 2
    exact Fin.ext (Nat.mod_eq_of_lt h1).symm
  rw [e]
  refine Eq.trans ?_ (tile_emb (R := 128) (N := 32) (q := 32) (k := k.val) (g := 0) (o := k0_off49 k) (fun k _ => zerosOf (blk (arg1.view.read (Elt F) X) k)) (k0_off49_eq k) (k0_off49_inb k) y (by decide)).symm
  dsimp only [zerosOf]
  rw [chain_congr fun g hg => congrArg _ (loads_eq arg1.view X k g hg)]

/-- All the stores of the trips before `n` agree with the block's functions. -/
theorem pieces : ∀ n ≤ k0_t1_loop.trips,
    (∀ p ∈ (pb_k0_t1 𝒱 c bd i arg1 harg1 arg2 harg2 arg3 harg3 arg4 harg4 arg5 harg5 lanes X n).1, ∀ y, p.2 y = acts (arg1.view.read (Elt F) X) (p.1.emb y))
    ∧ (∀ p ∈ (pb_k0_t1 𝒱 c bd i arg1 harg1 arg2 harg2 arg3 harg3 arg4 harg4 arg5 harg5 lanes X n).2.1, ∀ y, p.2 y = codes (arg1.view.read (Elt F) X) (p.1.emb y))
    ∧ (∀ p ∈ (pb_k0_t1 𝒱 c bd i arg1 harg1 arg2 harg2 arg3 harg3 arg4 harg4 arg5 harg5 lanes X n).2.2.1, ∀ y, p.2 y = scales (arg1.view.read (Elt F) X) (p.1.emb y))
    ∧ (∀ p ∈ (pb_k0_t1 𝒱 c bd i arg1 harg1 arg2 harg2 arg3 harg3 arg4 harg4 arg5 harg5 lanes X n).2.2.2, ∀ y, p.2 y = zeros (arg1.view.read (Elt F) X) (p.1.emb y))
  | 0, _ => by
    rw [pb_k0_t1.eq_1]
    exact ⟨fun _ h => absurd h List.not_mem_nil, fun _ h => absurd h List.not_mem_nil, fun _ h => absurd h List.not_mem_nil, fun _ h => absurd h List.not_mem_nil⟩
  | n + 1, hn => by
    obtain ⟨a, b, d, e⟩ := pieces n (Nat.le_of_succ_le hn)
    rw [pb_k0_t1_succ 𝒱 c bd i arg1 harg1 arg2 harg2 arg3 harg3 arg4 harg4 arg5 harg5 lanes X ⟨n, hn⟩]
    exact ⟨fun p h => (List.mem_append.1 h).elim (acts_trip _ _ _ _ _ _ _ _ _ _ _ _ _ _ _ _ p) (a p),
      fun p h => (List.mem_append.1 h).elim (codes_trip _ _ _ _ _ _ _ _ _ _ _ _ _ _ _ _ p) (b p),
      fun p h => (List.mem_append.1 h).elim (scales_trip _ _ _ _ _ _ _ _ _ _ _ _ _ _ _ _ p) (d p),
      fun p h => (List.mem_append.1 h).elim (zeros_trip _ _ _ _ _ _ _ _ _ _ _ _ _ _ _ _ p) (e p)⟩

end

section
variable (c : Dev nD) (i : grid0.Coords) (arg1 : Memref sig .tc .vmem S128x4096 .bf16) (harg1 : arg1.IsWhole) (arg2 : Memref sig .tc .vmem S128x4096 .bf16) (harg2 : arg2.IsWhole) (arg3 : Memref sig .tc .vmem S128x2048 .i8) (harg3 : arg3.IsWhole) (arg4 : Memref sig .tc .vmem S128x32 .f32) (harg4 : arg4.IsWhole) (arg5 : Memref sig .tc .vmem S128x32 .i8) (harg5 : arg5.IsWhole)
  (x0 : Vec F S128x4096 .bf16)

/-- What the body leaves of the activations. -/
theorem out_acts : out0_A_1 c i arg1 harg1 arg2 harg2 arg3 harg3 arg4 harg4 arg5 harg5 x0 = acts x0 := by
  funext y
  have h := (pieces Variants.none c none i arg1 harg1 arg2 harg2 arg3 harg3 arg4 harg4 arg5 harg5 (harg1.unread x0) k0_t1_loop.trips le_rfl).1
  rw [harg1.read_unread] at h
  exact View.read_writes_apply_of_pieces _ _ (acts x0) _ h y (cover0_A_1 c i arg1 harg1 arg2 harg2 arg3 harg3 arg4 harg4 arg5 harg5 x0 y)

/-- What the body leaves of the codes. -/
theorem out_codes : out0_A_2 c i arg1 harg1 arg2 harg2 arg3 harg3 arg4 harg4 arg5 harg5 x0 = codes x0 := by
  funext y
  have h := (pieces Variants.none c none i arg1 harg1 arg2 harg2 arg3 harg3 arg4 harg4 arg5 harg5 (harg1.unread x0) k0_t1_loop.trips le_rfl).2.1
  rw [harg1.read_unread] at h
  exact View.read_writes_apply_of_pieces _ _ (codes x0) _ h y (cover0_A_2 c i arg1 harg1 arg2 harg2 arg3 harg3 arg4 harg4 arg5 harg5 x0 y)

/-- What the body leaves of the scales. -/
theorem out_scales : out0_A_3 c i arg1 harg1 arg2 harg2 arg3 harg3 arg4 harg4 arg5 harg5 x0 = scales x0 := by
  funext y
  have h := (pieces Variants.none c none i arg1 harg1 arg2 harg2 arg3 harg3 arg4 harg4 arg5 harg5 (harg1.unread x0) k0_t1_loop.trips le_rfl).2.2.1
  rw [harg1.read_unread] at h
  exact View.read_writes_apply_of_pieces _ _ (scales x0) _ h y (cover0_A_3 c i arg1 harg1 arg2 harg2 arg3 harg3 arg4 harg4 arg5 harg5 x0 y)

/-- What the body leaves of the zero points. -/
theorem out_zeros : out0_A_4 c i arg1 harg1 arg2 harg2 arg3 harg3 arg4 harg4 arg5 harg5 x0 = zeros x0 := by
  funext y
  have h := (pieces Variants.none c none i arg1 harg1 arg2 harg2 arg3 harg3 arg4 harg4 arg5 harg5 (harg1.unread x0) k0_t1_loop.trips le_rfl).2.2.2
  rw [harg1.read_unread] at h
  exact View.read_writes_apply_of_pieces _ _ (zeros x0) _ h y (cover0_A_4 c i arg1 harg1 arg2 harg2 arg3 harg3 arg4 harg4 arg5 harg5 x0 y)
end
end Cert.KernelIdeal.Chunk
end
-- ==== Proof.Group.lean ====
module

public import Idealize.ShloMosaic.Lib.Pointwise

/-! The asymmetric 4-bit quantiser of one group of 128 numbers, over the extended reals: the group's minimum and
    maximum with zero taken in, the scale, the zero point and the code of each element. The zero point and every
    code is a whole number from 0 to 15, whatever the numbers are, infinities included. -/

@[expose] public section
noncomputable section

namespace Cert.Group
open Idealize.ShloMosaic Idealize.ShloMosaic.Ideal

/-! ### The constants the programs spell as bit patterns -/

/-- The constants of the programs as numbers. -/
theorem bits_zero : Ideal.ofBits .f32 0x00000000#32 = 0 := by simp [ofBits, ieee]
theorem bits_one : Ideal.ofBits .f32 0x3F800000#32 = 1 := by simp [ofBits, ieee, -EReal.coe_mul]; norm_num
theorem bits_fifteen : Ideal.ofBits .f32 0x41700000#32 = ((15 : ℝ) : EReal) := by
  simp [ofBits, ieee, -EReal.coe_mul]; norm_num
theorem bits_sixteen : Ideal.ofBits .f32 0x41800000#32 = ((16 : ℝ) : EReal) := by
  simp [ofBits, ieee, -EReal.coe_mul]; norm_num
theorem bits_eight : Ideal.ofBits .bf16 0x4100#16 = ((8 : ℝ) : EReal) := by
  simp [ofBits, ieee, -EReal.coe_mul]; norm_num
theorem bits_top : Ideal.ofBits .f32 0x7F800000#32 = ⊤ := by simp [ofBits, ieee]
theorem bits_bot : Ideal.ofBits .f32 0xFF800000#32 = ⊥ := by simp [ofBits, ieee]

/-- Rounding to the nearest whole number, ties to even; infinities stay. -/
def rnd (x : EReal) : EReal := Ideal.liftRound Ideal.roundHalfEven x

/-- The group's minimum with zero taken in. -/
def lo (f : Fin 128 → EReal) : EReal := min 0 (Finset.univ.fold min ⊤ f)
/-- The group's maximum with zero taken in. -/
def hi (f : Fin 128 → EReal) : EReal := max 0 (Finset.univ.fold max ⊥ f)
/-- The group's scale: a fifteenth of the range, 1 for an empty range. -/
def sc (f : Fin 128 → EReal) : EReal := if hi f = lo f then 1 else Ideal.div (hi f - lo f) ((15 : ℝ) : EReal)
/-- The group's zero point. -/
def zp (f : Fin 128 → EReal) : EReal := rnd (Ideal.div (0 - lo f) (sc f))
/-- The code of element `d` of the group. -/
def qd (f : Fin 128 → EReal) (d : Fin 128) : EReal :=
  min ((15 : ℝ) : EReal) (max 0 (rnd (Ideal.div (f d) (sc f)) + zp f))

/-- The lower end is not above zero. -/
theorem lo_le (f : Fin 128 → EReal) : lo f ≤ 0 := min_le_left _ _
/-- The upper end is not below zero. -/
theorem le_hi (f : Fin 128 → EReal) : 0 ≤ hi f := le_max_left _ _

/-- An infinity or a whole number. -/
def Whole (x : EReal) : Prop := x = ⊤ ∨ x = ⊥ ∨ ∃ z : ℤ, x = ((z : ℝ) : EReal)

/-- A rounded number is whole or an infinity. -/
theorem whole_rnd (x : EReal) : Whole (rnd x) := by
  induction x with
  | bot => exact .inr (.inl rfl)
  | top => exact .inl rfl
  | coe r => exact .inr (.inr ⟨_, rfl⟩)

/-- The sum of two such numbers is such a number. -/
theorem Whole.add {x y : EReal} (hx : Whole x) (hy : Whole y) : Whole (x + y) := by
  rcases hx with rfl | rfl | ⟨a, rfl⟩ <;> rcases hy with rfl | rfl | ⟨b, rfl⟩
  · exact .inl rfl
  · exact .inr (.inl rfl)
  · exact .inl rfl
  · exact .inr (.inl rfl)
  · exact .inr (.inl rfl)
  · exact .inr (.inl rfl)
  · exact .inl rfl
  · exact .inr (.inl rfl)
  · exact .inr (.inr ⟨a + b, by push_cast; rfl⟩)

/-- A whole number or infinity clipped to 0 … 15 is one of the numbers 0, …, 15. -/
theorem Whole.clip {x : EReal} (hx : Whole x) : ∃ n : ℕ, n ≤ 15 ∧ min ((15 : ℝ) : EReal) (max 0 x) = ((n : ℝ) : EReal) := by
  rcases hx with rfl | rfl | ⟨a, rfl⟩
  · exact ⟨15, le_rfl, by simp⟩
  · exact ⟨0, by omega, by simp⟩
  · refine ⟨(min 15 (max 0 a)).toNat, by omega, ?_⟩
    have h : (((min 15 (max 0 a)).toNat : ℤ) : ℝ) = ((min 15 (max 0 a) : ℤ) : ℝ) := by
      rw [Int.toNat_of_nonneg (by omega)]
    have e : (((min 15 (max 0 a)).toNat : ℕ) : ℝ) = min 15 (max 0 (a : ℝ)) := by
      rw [← Int.cast_natCast, h]; push_cast; rfl
    rw [e, EReal.coe_strictMono.monotone.map_min, EReal.coe_strictMono.monotone.map_max, EReal.coe_zero]

/-- A code is one of 0, …, 15. -/
theorem qd_nat (f : Fin 128 → EReal) (d : Fin 128) : ∃ n : ℕ, n ≤ 15 ∧ qd f d = ((n : ℝ) : EReal) :=
  ((whole_rnd _).add (whole_rnd _)).clip

/-- Rounding stays between 0 and 15. -/
theorem roundHalfEven_mem {r : ℝ} (h0 : 0 ≤ r) (h15 : r ≤ 15) : 0 ≤ roundHalfEven r ∧ roundHalfEven r ≤ 15 := by
  have f0 : 0 ≤ ⌊r⌋ := Int.floor_nonneg.2 h0
  have fl : (⌊r⌋ : ℝ) ≤ r := Int.floor_le r
  have f15 : ⌊r⌋ ≤ 15 := by
    have : (⌊r⌋ : ℝ) ≤ ((15 : ℤ) : ℝ) := by push_cast; linarith
    exact_mod_cast this
  have up : r - ⌊r⌋ < 1 / 2 ∨ ⌊r⌋ + 1 ≤ 15 := by
    by_cases h : ⌊r⌋ = 15
    · left; rw [h]; push_cast; linarith
    · right; omega
  unfold roundHalfEven
  dsimp only
  split_ifs <;> first | exact ⟨by omega, by omega⟩ | (rcases up with h | h <;> first | exact absurd h ‹_› | exact ⟨by omega, by omega⟩)

/-- A number between 0 and 15 rounds to one of 0, …, 15. -/
theorem rnd_nat {r : ℝ} (h0 : 0 ≤ r) (h15 : r ≤ 15) : ∃ n : ℕ, n ≤ 15 ∧ rnd (r : EReal) = ((n : ℝ) : EReal) := by
  obtain ⟨a, b⟩ := roundHalfEven_mem h0 h15
  refine ⟨(roundHalfEven r).toNat, by omega, ?_⟩
  have h : ((((roundHalfEven r).toNat : ℕ) : ℤ) : ℝ) = ((roundHalfEven r : ℤ) : ℝ) := by rw [Int.toNat_of_nonneg a]
  rw [Int.cast_natCast] at h
  rw [h]; rfl

/-- The zero point from the ends of the range. -/
theorem zp_nat_aux {l h : EReal} (hl : l ≤ 0) (hh : 0 ≤ h) :
    ∃ n : ℕ, n ≤ 15 ∧ rnd (Ideal.div (0 - l) (if h = l then 1 else Ideal.div (h - l) ((15 : ℝ) : EReal))) = ((n : ℝ) : EReal) := by
  have d15 (x : EReal) : Ideal.div x ((15 : ℝ) : EReal) = x * ((15⁻¹ : ℝ) : EReal) := by
    unfold Ideal.div
    rw [if_neg (by exact_mod_cast (by norm_num : (15 : ℝ) ≠ 0)), ← EReal.coe_inv]
  have t15 : (⊤ : EReal) * ((15⁻¹ : ℝ) : EReal) = ⊤ := EReal.top_mul_coe_of_pos (by norm_num)
  have dtop (x : EReal) : Ideal.div x ⊤ = 0 := by
    unfold Ideal.div
    rw [if_neg (by simp), EReal.inv_top, mul_zero]
  have r0 : rnd 0 = (((0 : ℕ) : ℝ) : EReal) := by
    have h : roundHalfEven 0 = 0 := by simp [roundHalfEven]
    show ((roundHalfEven 0 : ℝ) : EReal) = _
    rw [h]; simp
  induction l with
  | top => exact absurd hl (by simp)
  | bot =>
    have hne : h ≠ ⊥ := fun e => by rw [e] at hh; exact absurd hh (by simp)
    rw [if_neg hne, d15, EReal.sub_bot hne, t15, dtop]
    exact ⟨0, by omega, r0⟩
  | coe l =>
    induction h with
    | bot => exact absurd hh (by simp)
    | top =>
      rw [if_neg (by simp), d15, EReal.top_sub_coe, t15, dtop]
      exact ⟨0, by omega, r0⟩
    | coe h =>
      have hl' : l ≤ 0 := by exact_mod_cast hl
      have hh' : 0 ≤ h := by exact_mod_cast hh
      by_cases e : h = l
      · have l0 : l = 0 := by linarith
        subst e; subst l0
        rw [if_pos rfl]
        refine ⟨0, by omega, ?_⟩
        rw [← r0]
        congr 1
        simp [Ideal.div]
      · have hlt : 0 < h - l := by
          rcases lt_or_gt_of_ne e with q | q <;> linarith
        rw [if_neg (by exact_mod_cast e), d15, ← EReal.coe_sub, ← EReal.coe_mul]
        have hpos : (0 : ℝ) < (h - l) * 15⁻¹ := by positivity
        have e2 : Ideal.div (0 - (l : EReal)) (((h - l) * 15⁻¹ : ℝ) : EReal) = (((0 - l) / ((h - l) * 15⁻¹) : ℝ) : EReal) := by
          unfold Ideal.div
          rw [if_neg (by exact_mod_cast hpos.ne'), ← EReal.coe_inv, ← EReal.coe_zero, ← EReal.coe_sub, ← EReal.coe_mul, div_eq_mul_inv]
        rw [e2]
        refine rnd_nat (div_nonneg (by linarith) hpos.le) ?_
        rw [div_le_iff₀ hpos]
        linarith

/-- A zero point is one of 0, …, 15. -/
theorem zp_nat (f : Fin 128 → EReal) : ∃ n : ℕ, n ≤ 15 ∧ zp f = ((n : ℝ) : EReal) :=
  zp_nat_aux (lo_le f) (le_hi f)

/-! ### Small whole numbers through the integer conversions -/

/-- A small whole number to a byte. -/
theorem fptoui_nat {n : ℕ} (hn : n ≤ 255) : Ideal.fptoui 8 ((n : ℝ) : EReal) = BitVec.ofNat 8 n := by
  have e : toIntClamped 0 ((2 ^ 8 : Nat) - 1) ((n : ℝ) : EReal) = (n : ℤ) := by
    show max (0 : ℤ) (min _ (if 0 ≤ (n : ℝ) then ⌊(n : ℝ)⌋ else ⌈(n : ℝ)⌉)) = (n : ℤ)
    rw [if_pos (Nat.cast_nonneg n), Int.floor_natCast]
    omega
  unfold Ideal.fptoui
  rw [e, BitVec.ofInt_natCast]

/-- A small whole number to a word and cut to a byte. -/
theorem fptosi_nat {n : ℕ} (hn : n ≤ 255) : (Ideal.fptosi 32 ((n : ℝ) : EReal)).setWidth 8 = BitVec.ofNat 8 n := by
  have e : toIntClamped (-(2 ^ (32 - 1) : Nat)) ((2 ^ (32 - 1) : Nat) - 1) ((n : ℝ) : EReal) = (n : ℤ) := by
    show max (_ : ℤ) (min _ (if 0 ≤ (n : ℝ) then ⌊(n : ℝ)⌋ else ⌈(n : ℝ)⌉)) = (n : ℤ)
    rw [if_pos (Nat.cast_nonneg n), Int.floor_natCast]
    omega
  unfold Ideal.fptosi
  rw [e, BitVec.ofInt_natCast]
  exact BitVec.setWidth_ofNat_of_le (by omega) n

/-! ### One group's results -/

/-- The code of an element as a byte. -/
def cd (f : Fin 128 → EReal) (d : Fin 128) : BitVec 8 := Ideal.fptoui 8 (qd f d)
/-- The zero point as a byte. -/
def zb (f : Fin 128 → EReal) : BitVec 8 := Ideal.fptoui 8 (zp f)
/-- The dequantised element. -/
def dq (f : Fin 128 → EReal) (d : Fin 128) : EReal := (qd f d - zp f) * sc f

/-- A code read back as a number. -/
theorem cd_toInt (f : Fin 128 → EReal) (d : Fin 128) : (((cd f d).toInt : ℝ) : EReal) = qd f d := by
  obtain ⟨n, hn, e⟩ := qd_nat f d
  rw [cd, e, fptoui_nat (by omega)]
  interval_cases n <;> rfl

/-- A code less the zero point, taken in 32-bit integers. -/
theorem sub_toInt (f : Fin 128 → EReal) (d : Fin 128) :
    ((((cd f d).setWidth 32 - (zb f).setWidth 32).toInt : ℝ) : EReal) = qd f d - zp f := by
  obtain ⟨n, hn, e⟩ := qd_nat f d
  obtain ⟨m, hm, e'⟩ := zp_nat f
  have h : ((BitVec.ofNat 8 n).setWidth 32 - (BitVec.ofNat 8 m).setWidth 32).toInt = (n : ℤ) - m := by
    interval_cases n <;> interval_cases m <;> rfl
  rw [cd, zb, e, e', fptoui_nat (by omega), fptoui_nat (by omega), h, ← EReal.coe_sub]
  push_cast
  rfl

/-! ### One row of 4096 numbers, as a function of the column -/

/-- Group `g` of a row. -/
def grp (v : ℕ → EReal) (g : ℕ) : Fin 128 → EReal := fun d => v (128 * g + d.val)
/-- The code of column `d`. -/
def code (v : ℕ → EReal) (d : ℕ) : BitVec 8 := cd (grp v (d / 128)) (Fin.ofNat 128 d)
/-- The dequantised column `d`. -/
def deq (v : ℕ → EReal) (d : ℕ) : EReal := dq (grp v (d / 128)) (Fin.ofNat 128 d)
/-- Byte `j` of the packed codes: column `2 j` in the low half, column `2 j + 1` in the high half. -/
def packed (v : ℕ → EReal) (j : ℕ) : BitVec 8 := code v (2 * j) ||| (code v (2 * j + 1) <<< 4)

/-! ### The weights -/

/-- A half of a byte, the low one for even `h`, as a signed 4-bit number. -/
def i4 (b : BitVec 8) (h : ℕ) : ℤ :=
  let n := if h = 0 then b.toNat % 16 else b.toNat / 16
  if 8 ≤ n then (n : ℤ) - 16 else n
/-- The dequantised weight in column `d` of a row: a half of byte `d / 2` times the scale of group `d / 128`. -/
def wdq (w : ℕ → BitVec 8) (s : ℕ → EReal) (d : ℕ) : EReal := ((i4 (w (d / 2)) (d % 2) : ℝ) : EReal) * s (d / 128)

end Cert.Group
end
-- ==== Proof.Words.lean ====
module

public import Idealize.ShloMosaic.Lib.Pointwise
public import Idealize.ShloMosaic.Lib.BitcastFour

/-! Four rows of bytes as one row of 32-bit words, and the nibble operations on words byte by byte. -/

@[expose] public section
noncomputable section
namespace Cert.Words
open Idealize.ShloMosaic

/-- Byte `p` of a word. -/
def wb (w : BitVec 32) (p : ℕ) : BitVec 8 := w.extractLsb' (8 * p) 8

/-- A bit of a word's byte. -/
theorem wb_getLsbD (w : BitVec 32) (p q : ℕ) (hq : q < 8) : (wb w p).getLsbD q = w.getLsbD (8 * p + q) := by
  unfold wb
  rw [BitVec.getLsbD_extractLsb']
  simp [hq]

/-- A bit of the mask of the four low halves. -/
theorem nib_bit (i : ℕ) (hi : i < 32) : (252645135#32 : BitVec 32).getLsbD i = decide (i % 8 < 4) := by
  interval_cases i <;> rfl

/-- A bit of the mask of a low half. -/
theorem nib8_bit (i : ℕ) (hi : i < 8) : (15#8 : BitVec 8).getLsbD i = decide (i < 4) := by
  interval_cases i <;> rfl

/-- The low halves, byte by byte. -/
theorem wb_low (w : BitVec 32) (p : ℕ) (hp : p < 4) : wb (w &&& 252645135#32) p = wb w p &&& 15#8 := by
  apply BitVec.eq_of_getLsbD_eq
  intro q hq
  rw [wb_getLsbD _ _ _ hq, BitVec.getLsbD_and, BitVec.getLsbD_and, wb_getLsbD _ _ _ hq, nib_bit _ (by omega), nib8_bit _ hq,
    show (8 * p + q) % 8 = q by omega]

/-- The high halves, byte by byte. -/
theorem wb_high (w : BitVec 32) (p : ℕ) (hp : p < 4) : wb ((w >>> 4) &&& 252645135#32) p = wb w p >>> 4 := by
  apply BitVec.eq_of_getLsbD_eq
  intro q hq
  rw [wb_getLsbD _ _ _ hq, BitVec.getLsbD_and, BitVec.getLsbD_ushiftRight, BitVec.getLsbD_ushiftRight, nib_bit _ (by omega),
    show (8 * p + q) % 8 = q by omega]
  by_cases h : q < 4
  · rw [wb_getLsbD _ _ _ (by omega), decide_eq_true h, Bool.and_true]
    congr 1
    omega
  · rw [decide_eq_false h, Bool.and_false, BitVec.getLsbD_of_ge _ _ (by omega)]

/-- An or, byte by byte. -/
theorem wb_or (v w : BitVec 32) (p : ℕ) : wb (v ||| w) p = wb v p ||| wb w p := by
  apply BitVec.eq_of_getLsbD_eq
  intro q hq
  simp only [wb_getLsbD _ _ _ hq, BitVec.getLsbD_or]

/-- An exclusive or, byte by byte. -/
theorem wb_xor (v w : BitVec 32) (p : ℕ) : wb (v ^^^ w) p = wb v p ^^^ wb w p := by
  apply BitVec.eq_of_getLsbD_eq
  intro q hq
  simp only [wb_getLsbD _ _ _ hq, BitVec.getLsbD_xor]

/-- Low halves moved up, byte by byte. -/
theorem wb_up (w : BitVec 32) (p : ℕ) (hp : p < 4) : wb ((w &&& 252645135#32) <<< 4) p = wb (w &&& 252645135#32) p <<< 4 := by
  apply BitVec.eq_of_getLsbD_eq
  intro q hq
  rw [wb_getLsbD _ _ _ hq, BitVec.getLsbD_shiftLeft, BitVec.getLsbD_shiftLeft]
  by_cases h : q < 4
  · have m : 8 * p + q < 4 ∨ ¬ (8 * p + q - 4) % 8 < 4 := by omega
    rcases m with m | m
    · simp [h, m]
    · simp only [BitVec.getLsbD_and]
      rw [nib_bit _ (by omega)]
      simp [h, m]
  · have a : 8 * p + q < 32 := by omega
    have b : ¬ 8 * p + q < 4 := by omega
    have e : 8 * p + q - 4 = 8 * p + (q - 4) := by omega
    rw [wb_getLsbD _ _ _ (by omega)]
    simp only [a, b, e, h, hq, decide_true, decide_false, Bool.not_false, Bool.true_and]

/-- The bytes of a word built from four rows of bytes. -/
theorem wb_bitcast {R r n : ℕ} (x : (⟨2, ![R, n]⟩ : Shape).Idx → BitVec 8) (h : (⟨2, ![R, n]⟩ : Shape).Bitcasts 8 ⟨2, ![r, n]⟩ 32)
    (a : Fin r) (l : Fin n) (p : ℕ) (hp : p < 4) (b : Fin R) (hb : b.val = 4 * a.val + p) :
    wb (bitcast ⟨2, ![r, n]⟩ 32 x h (ix2 a l)) p = x (ix2 b l) := by
  apply BitVec.eq_of_getLsbD_eq
  intro q hq
  rw [wb_getLsbD _ _ _ hq]
  refine (bitcast_8_32_getLsbD_ix2 x h a l (8 * p + q) (by omega) b (by omega)).trans ?_
  rw [show (8 * p + q) % 8 = q by omega]
  rfl

/-- A row of bytes taken back out of the words. -/
theorem bitcast_wb {R r n : ℕ} (x : (⟨2, ![r, n]⟩ : Shape).Idx → BitVec 32) (h : (⟨2, ![r, n]⟩ : Shape).Bitcasts 32 ⟨2, ![R, n]⟩ 8)
    (b : Fin R) (l : Fin n) (a : Fin r) (ha : a.val = b.val / 4) :
    bitcast ⟨2, ![R, n]⟩ 8 x h (ix2 b l) = wb (x (ix2 a l)) (b.val % 4) := by
  apply BitVec.eq_of_getLsbD_eq
  intro q hq
  have hr : (⟨2, ![R, n]⟩ : Shape).row (ix2 b l) = b.val := rfl
  rw [wb_getLsbD _ _ _ hq, bitcast_getLsbD x h _ q hq (by decide)]
  have e1 : ((⟨2, ![R, n]⟩ : Shape).row (ix2 b l) * 8 + q) % 32 = 8 * (b.val % 4) + q := by rw [hr]; omega
  rw [e1]
  congr 2
  funext c
  apply Fin.ext
  match c with
  | ⟨0, _⟩ =>
    refine (h.srcIdx_row _ _ _ _ rfl).trans ?_
    show (_ * 8 + q) / 32 = a.val
    rw [hr, ha]; omega
  | ⟨1, _⟩ => exact h.srcIdx_other _ _ _ _ (by show ¬ (1 + 2 = 2); decide)

end Cert.Words
end
-- ==== Proof.KernelIdeal.Lanes.lean ====
module

public import proofs.«01_k».proof.Proof.KernelIdeal.Blocks
public import proofs.«01_k».proof.Proof.Group
public import proofs.«01_k».proof.Proof.Words

/-! The quantiser's chunk over the extended reals, lane by lane: which group, which code and which zero point and scale
    each stored element comes from. -/

@[expose] public section
noncomputable section
namespace Cert.KernelIdeal.Chunk
open Cert.KernelIdeal.Gen Cert.Words
open Idealize.ShloMosaic Idealize.ShloMosaic.TcCoe Idealize.ShloMosaic.Tactic

/-- Row `r` of a tile. -/
def row (x : Vec Ideal S32x128 .bf16) (r : Fin 32) : Fin 128 → EReal := fun d => x (ix2 r d)

/-- The group's lower end, as the body computes it. -/
theorem lo_at (x : Vec Ideal S32x128 .bf16) (r : Fin 32) (l : Fin 1) : k0_pay12 x (ix2 r l) = Group.lo (row x r) := by
  pointwise [k0_pay12, k0_pay11]
  rw [Group.bits_top]
  rfl

/-- The group's scale, as the body computes it. -/
theorem sc_at (x : Vec Ideal S32x128 .bf16) (r : Fin 32) (l : Fin 1) : k0_pay13 x (ix2 r l) = Group.sc (row x r) := by
  unfold k0_pay13
  dsimp only
  pointwise [k0_pay11]
  rw [lo_at, Group.bits_bot, Group.bits_fifteen]
  rfl

/-- The group's zero point, as the body computes it. -/
theorem zp_at (x : Vec Ideal S32x128 .bf16) (r : Fin 32) (l : Fin 1) : k0_pay14 x (ix2 r l) = Group.zp (row x r) := by
  unfold k0_pay14
  pointwise
  rw [lo_at, sc_at]
  rfl

/-- The code of a lane's element, as the body computes it. -/
theorem qd_at (x : Vec Ideal S32x128 .bf16) (r : Fin 32) (l : Fin 128) : k0_pay15 x (ix2 r l) = Group.qd (row x r) l := by
  unfold k0_pay15
  pointwise [k0_pay11]
  simp only [zp_at, sc_at, Group.bits_fifteen]
  rfl

theorem sc_at' (x : Vec Ideal S32x128 .bf16) (r : Fin 32) (l : Fin 1) : k0_pay21 x (ix2 r l) = Group.sc (row x r) := sc_at x r l
theorem zp_at' (x : Vec Ideal S32x128 .bf16) (r : Fin 32) (l : Fin 1) : k0_pay22 x (ix2 r l) = Group.zp (row x r) := zp_at x r l

/-- A byte that holds the codes of both groups of a chunk: the first group's low, the second's high. -/
theorem both_at (x0 x1 : Vec Ideal S32x128 .bf16) (r : Fin 32) (l : Fin 128) :
    bothOf x0 x1 (ix2 r l) &&& 15#8 = Group.cd (row x0 r) l ∧ bothOf x0 x1 (ix2 r l) >>> 4 = Group.cd (row x1 r) l := by
  have e : bothOf x0 x1 (ix2 r l)
      = (Ideal.fptosi 32 (Group.qd (row x0 r) l + ((16 : ℝ) : EReal) * Group.qd (row x1 r) l)).setWidth 8 := by
    unfold bothOf k0_pay25
    pointwise [k0_pay19]
    simp only [qd_at, zp_at', sc_at', Group.bits_fifteen, Group.bits_sixteen]
    rfl
  obtain ⟨a, ha, ea⟩ := Group.qd_nat (row x0 r) l
  obtain ⟨b, hb, eb⟩ := Group.qd_nat (row x1 r) l
  have s : ((a : ℝ) : EReal) + ((16 : ℝ) : EReal) * ((b : ℝ) : EReal) = (((a + 16 * b : ℕ) : ℝ) : EReal) := by
    push_cast; rfl
  rw [e, Group.cd, Group.cd, ea, eb, s, Group.fptosi_nat (by omega), Group.fptoui_nat (by omega), Group.fptoui_nat (by omega)]
  interval_cases a <;> interval_cases b <;> exact ⟨rfl, rfl⟩

/-! ### The rearrangement of the codes -/

/-- Where the rearranged words take lane `l` from. -/
def src (l : ℕ) : ℕ := if l < 64 then 2 * l else 2 * l - 127

/-- The lane that the gather reads is a lane. -/
theorem src_lt {l : ℕ} (h : l < 128) : src l < 128 := by unfold src; split <;> omega

/-- The gathered words. -/
theorem deint_at (T : IVec S32x128 8) (R : Fin 8) (l : Fin 128) : k0_pay26 k0_pay2 T (ix2 R l)
    = bitcast S8x128 32 T bitcasts_S32x128_w8_S8x128_w32 (ix2 R ⟨src l.val, src_lt l.isLt⟩) := by
  have h : ∀ l : Fin 128, (Scalar.select (IntOp.cmpi .slt (Scalar.select (IntOp.cmpi .slt (BitVec.ofNat 32 l.val) 64#32)
        (IntOp.muli (2#32) (BitVec.ofNat 32 l.val)) (IntOp.subi (IntOp.muli (2#32) (BitVec.ofNat 32 l.val)) 127#32)) 0#32)
      (IntOp.addi (Scalar.select (IntOp.cmpi .slt (BitVec.ofNat 32 l.val) 64#32) (IntOp.muli (2#32) (BitVec.ofNat 32 l.val))
        (IntOp.subi (IntOp.muli (2#32) (BitVec.ofNat 32 l.val)) 127#32)) 128#32)
      (Scalar.select (IntOp.cmpi .slt (BitVec.ofNat 32 l.val) 64#32) (IntOp.muli (2#32) (BitVec.ofNat 32 l.val))
        (IntOp.subi (IntOp.muli (2#32) (BitVec.ofNat 32 l.val)) 127#32))).toNat % 128 = src l.val := by decide +kernel
  unfold k0_pay26
  pointwise [k0_pay2, k0_pay1]
  exact congrArg _ (congrArg (ix2 R) (Fin.ext (h l)))

/-- The gathered words turned by half a register. -/
theorem rot_at (T : IVec S32x128 8) (R : Fin 8) (l : Fin 128) : k0_pay27 k0_pay2 T (ix2 R l)
    = bitcast S8x128 32 T bitcasts_S32x128_w8_S8x128_w32 (ix2 R ⟨src ((l.val + 64) % 128), src_lt (by omega)⟩) := by
  unfold k0_pay27
  dsimp only
  pointwise
  rw [deint_at]
  refine congrArg _ (congrArg (ix2 R) (Fin.ext (congrArg src ?_)))
  show (l.val + 128 - 64) % 128 = (l.val + 64) % 128
  congr 1

/-- The row of words that holds row `r`. -/
def quarter (r : Fin 32) : Fin 8 := ⟨r.val / 4, by omega⟩

/-- A choice by the half of the lanes. -/
theorem slt64 {α : Type} (l : Fin 128) (a b : α) :
    Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide +kernel
  rw [h l]
  split <;> rfl

/-- A shift down by four bits. -/
theorem shr4 (w : BitVec 32) : IntOp.shrui ArithUnit.vector w 4#32 = w >>> 4 := rfl
/-- A shift up by four bits. -/
theorem shl4 (w : BitVec 32) : IntOp.shli ArithUnit.vector w 4#32 = w <<< 4 := rfl

/-- A byte of the words built from a tile of bytes. -/
theorem byte_at (T : IVec S32x128 8) (r : Fin 32) (l : Fin 128) :
    wb (bitcast S8x128 32 T bitcasts_S32x128_w8_S8x128_w32 (ix2 (quarter r) l)) (r.val % 4) = T (ix2 r l) :=
  wb_bitcast T _ (quarter r) l (r.val % 4) (by omega) r (by show r.val = 4 * (r.val / 4) + r.val % 4; omega)

/-- Where lane `l` of the even columns' codes comes from: the low halves first, then the high halves. -/
theorem low_byte (T : IVec S32x128 8) (r : Fin 32) (l : Fin 128) :
    wb (k0_pay28 k0_pay1 k0_pay2 252645135#32 T (ix2 (quarter r) l)) (r.val % 4)
      = if l.val < 64 then T (ix2 r (Fin.ofNat 128 (2 * l.val))) &&& 15#8 else T (ix2 r (Fin.ofNat 128 (2 * l.val))) >>> 4 := by
  unfold k0_pay28
  pointwise [k0_pay1]
  rw [deint_at, rot_at, slt64, shr4]
  have hl := l.isLt
  split
  · refine (wb_low _ _ (by omega)).trans ?_
    rw [byte_at]
    exact congrArg (fun q => T (ix2 r q) &&& 15#8) (Fin.ext (by show src l.val = 2 * l.val % 128; unfold src; split <;> omega))
  · refine (wb_high _ _ (by omega)).trans ?_
    rw [byte_at]
    exact congrArg (fun q => T (ix2 r q) >>> 4) (Fin.ext (by show src ((l.val + 64) % 128) = 2 * l.val % 128; unfold src; split <;> omega))

/-- The same for the odd columns. -/
theorem high_byte (T : IVec S32x128 8) (r : Fin 32) (l : Fin 128) :
    wb (k0_pay29 k0_pay1 k0_pay2 252645135#32 T (ix2 (quarter r) l)) (r.val % 4)
      = if l.val < 64 then T (ix2 r (Fin.ofNat 128 (2 * l.val + 1))) &&& 15#8 else T (ix2 r (Fin.ofNat 128 (2 * l.val + 1))) >>> 4 := by
  unfold k0_pay29
  pointwise [k0_pay1]
  rw [deint_at, rot_at, slt64, shr4]
  have hl := l.isLt
  split
  · refine (wb_low _ _ (by omega)).trans ?_
    rw [byte_at]
    exact congrArg (fun q => T (ix2 r q) &&& 15#8) (Fin.ext (by show src ((l.val + 64) % 128) = (2 * l.val + 1) % 128; unfold src; split <;> omega))
  · refine (wb_high _ _ (by omega)).trans ?_
    rw [byte_at]
    exact congrArg (fun q => T (ix2 r q) >>> 4) (Fin.ext (by show src l.val = (2 * l.val + 1) % 128; unfold src; split <;> omega))

/-- The words of the odd columns' codes have only low halves, so that shifting them up keeps the bytes apart. -/
theorem high_up (T : IVec S32x128 8) (r : Fin 32) (l : Fin 128) :
    wb (k0_pay29 k0_pay1 k0_pay2 252645135#32 T (ix2 (quarter r) l) <<< 4) (r.val % 4)
      = wb (k0_pay29 k0_pay1 k0_pay2 252645135#32 T (ix2 (quarter r) l)) (r.val % 4) <<< 4 := by
  unfold k0_pay29
  pointwise [k0_pay1]
  rw [slt64]
  split <;> exact wb_up _ _ (by omega)

/-- The group a lane's columns lie in: the chunk's first group for the first 64 lanes, then its second. -/
def pick (f0 f1 : Fin 128 → EReal) (l : ℕ) : Fin 128 → EReal := if l < 64 then f0 else f1

/-- The half of the byte that a lane takes is the code of the lane's group. -/
theorem code_at (x0 x1 : Vec Ideal S32x128 .bf16) (r : Fin 32) (l d : Fin 128) :
    (if l.val < 64 then bothOf x0 x1 (ix2 r d) &&& 15#8 else bothOf x0 x1 (ix2 r d) >>> 4)
      = Group.cd (pick (row x0 r) (row x1 r) l.val) d := by
  unfold pick
  split
  · exact (both_at x0 x1 r d).1
  · exact (both_at x0 x1 r d).2

/-- A code less the zero point, times the scale, is the dequantised element. -/
theorem deq_at (x0 x1 : Vec Ideal S32x128 .bf16) (r : Fin 32) (l d : Fin 128) :
    (FloatOps.sitofp (F := Ideal) FTy.bf16 (Group.cd (pick (row x0 r) (row x1 r) l.val) d)
        - Scalar.select (IntOp.cmpi .slt (BitVec.ofNat 32 l.val) 64#32) (k0_pay14 x0 (ix2 r 0)) (k0_pay22 x1 (ix2 r 0)))
      * Scalar.select (IntOp.cmpi .slt (BitVec.ofNat 32 l.val) 64#32) (k0_pay13 x0 (ix2 r 0)) (k0_pay21 x1 (ix2 r 0))
      = Group.dq (pick (row x0 r) (row x1 r) l.val) d := by
  have e : FloatOps.sitofp (F := Ideal) FTy.bf16 (Group.cd (pick (row x0 r) (row x1 r) l.val) d) = Group.qd (pick (row x0 r) (row x1 r) l.val) d :=
    Group.cd_toInt _ _
  rw [e, slt64, slt64, zp_at, sc_at, zp_at', sc_at']
  unfold pick
  split <;> rfl

/-- The even columns' dequantised elements. -/
theorem even_at (x0 x1 : Vec Ideal S32x128 .bf16) (r : Fin 32) (l : Fin 128) :
    evenOf x0 x1 (ix2 r l) = Group.dq (pick (row x0 r) (row x1 r) l.val) (Fin.ofNat 128 (2 * l.val)) := by
  unfold evenOf k0_pay33
  pointwise [k0_pay31, k0_pay32, k0_pay3]
  rw [bitcast_wb _ _ r l (quarter r) rfl, low_byte, code_at]
  exact deq_at x0 x1 r l _

/-- The odd columns' dequantised elements. -/
theorem odd_at (x0 x1 : Vec Ideal S32x128 .bf16) (r : Fin 32) (l : Fin 128) :
    oddOf x0 x1 (ix2 r l) = Group.dq (pick (row x0 r) (row x1 r) l.val) (Fin.ofNat 128 (2 * l.val + 1)) := by
  unfold oddOf k0_pay35
  pointwise [k0_pay31, k0_pay32, k0_pay3, k0_pay34]
  rw [bitcast_wb _ _ r l (quarter r) rfl, high_byte, code_at]
  exact deq_at x0 x1 r l _

/-- The packed codes of a chunk. -/
theorem codes_at (x0 x1 : Vec Ideal S32x128 .bf16) (r : Fin 32) (l : Fin 128) :
    codesOf x0 x1 (ix2 r l) = Group.cd (pick (row x0 r) (row x1 r) l.val) (Fin.ofNat 128 (2 * l.val))
      ||| (Group.cd (pick (row x0 r) (row x1 r) l.val) (Fin.ofNat 128 (2 * l.val + 1)) <<< 4) := by
  unfold codesOf k0_pay30
  rw [bitcast_wb _ _ r l (quarter r) rfl]
  pointwise
  rw [shl4]
  refine (wb_or _ _ _).trans ?_
  rw [high_up, low_byte, high_byte, code_at, code_at]

/-- The chain of selections leaves in lane `l` the number put there. -/
theorem chain_at (v : ℕ → FVec Ideal S32x1 .f32) (r : Fin 32) (l : Fin 128) : ∀ n ≤ 128, l.val < n → chain v n (ix2 r l) = v l.val (ix2 r 0)
  | 0, _, h => absurd h (Nat.not_lt_zero _)
  | n + 1, hn, h => by
    unfold chain
    pointwise
    have hl := l.isLt
    by_cases e : l.val = n
    · rw [e]
      have : IntOp.cmpi .eq (BitVec.ofNat 32 n) (BitVec.ofNat 32 n) = 1#1 := by simp [IntOp.cmpi]
      rw [this]; rfl
    · have : IntOp.cmpi .eq (BitVec.ofNat 32 l.val) (BitVec.ofNat 32 n) = 0#1 := by
        have ne : ¬ BitVec.ofNat 32 l.val = BitVec.ofNat 32 n := fun q => by
          have := congrArg BitVec.toNat q
          rw [BitVec.toNat_ofNat, BitVec.toNat_ofNat, Nat.mod_eq_of_lt (by omega), Nat.mod_eq_of_lt (by omega)] at this
          exact e this
        show BitVec.ofBool (BitVec.ofNat 32 l.val == BitVec.ofNat 32 n) = 0#1
        rw [beq_eq_false_iff_ne.2 ne]; rfl
      rw [this]
      exact chain_at v r l n (by omega) (by omega)

/-- The column of a scale is its group. -/
theorem scales_at (x : ℕ → Vec Ideal S32x128 .bf16) (r g : Fin 32) : scalesOf x (ix2 r g) = Group.sc (row (x g.val) r) := by
  unfold scalesOf k0_pay8
  pointwise
  rw [chain_at _ _ _ _ (by decide) g.isLt]
  exact sc_at _ _ _

/-- The column of a zero point is its group. -/
theorem zeros_at (x : ℕ → Vec Ideal S32x128 .bf16) (r g : Fin 32) : zerosOf x (ix2 r g) = Group.zb (row (x g.val) r) := by
  unfold zerosOf k0_pay9
  pointwise
  rw [chain_at _ _ _ _ (by decide) g.isLt]
  dsimp only
  rw [zp_at]
  obtain ⟨n, hn, e⟩ := Group.zp_nat (row (x g.val) r)
  rw [Group.zb, e, Group.fptoui_nat (by omega)]
  exact Group.fptosi_nat (by omega)

/-! ### The block of 128 rows -/

/-- Row `R` of a block of 128, as a function of the column. -/
def brow (x : Vec Ideal S128x4096 .bf16) (R : Fin 128) (d : ℕ) : EReal := x (ix2 R (Fin.ofNat 4096 d))

/-- A row of a group's block is a group of the block's row. -/
theorem row_blk (x : Vec Ideal S128x4096 .bf16) (R : Fin 128) (g : ℕ) :
    row (blk x (R.val / 32) g) (Fin.ofNat 32 R.val) = Group.grp (brow x R) g := by
  funext d
  have hR := R.isLt
  unfold row blk Group.grp brow
  exact congrArg (fun q => x (ix2 q (Fin.ofNat 4096 (128 * g + d.val)))) (Fin.ext (by
    show (32 * (R.val / 32) + R.val % 32) % 128 = R.val; omega))

/-- Which group and column a lane of chunk `c` holds: column `256 c + d` with `d = 2 l + h` below 256. -/
theorem pick_grp (v : ℕ → EReal) (c l h : ℕ) (hl : l < 128) (hh : h < 2) :
    pick (Group.grp v (2 * c)) (Group.grp v (2 * c + 1)) l = Group.grp v ((256 * c + (2 * l + h)) / 128) := by
  unfold pick
  split
  · congr 1; omega
  · congr 1; omega

/-- A whole number of chunks leaves the lane as it is. -/
theorem ofNat128 (c d : ℕ) : Fin.ofNat 128 (256 * c + d) = Fin.ofNat 128 d := Fin.ext (by
  show (256 * c + d) % 128 = d % 128; omega)

/-- The column whose dequantised value is stored in column `k`: within each chunk of 256 columns the even ones come
    first. -/
def perm (k : ℕ) : ℕ := 256 * (k / 256) + (2 * (k % 128) + k / 128 % 2)

/-- The dequantised block, in the body's column order. -/
theorem acts_at (x : Vec Ideal S128x4096 .bf16) (R : Fin 128) (k : Fin 4096) : acts x (ix2 R k) = Group.deq (brow x R) (perm k.val) := by
  have hk := k.isLt
  have e : acts x (ix2 R k) = aOf (blk x (R.val / 32)) (k.val / 128) (ix2 (Fin.ofNat 32 R.val) (Fin.ofNat 128 k.val)) := rfl
  have c2 : 2 * (k.val / 128 / 2) = 2 * (k.val / 256) := by omega
  rw [e]
  unfold aOf Group.deq perm
  rw [ofNat128, c2]
  by_cases h : k.val / 128 % 2 = 0
  · rw [if_pos h, even_at, row_blk, row_blk, h, ← pick_grp _ _ _ 0 (by omega) (by omega)]
    rfl
  · rw [if_neg h, odd_at, row_blk, row_blk, show k.val / 128 % 2 = 1 by omega, ← pick_grp _ _ _ 1 (by omega) (by omega)]
    rfl

/-- The block's packed codes. -/
theorem codes_block (x : Vec Ideal S128x4096 .bf16) (R : Fin 128) (j : Fin 2048) : codes x (ix2 R j) = Group.packed (brow x R) j.val := by
  have hj := j.isLt
  have e : codes x (ix2 R j) = codesOf (blk x (R.val / 32) (2 * (j.val / 128))) (blk x (R.val / 32) (2 * (j.val / 128) + 1))
    (ix2 (Fin.ofNat 32 R.val) (Fin.ofNat 128 j.val)) := rfl
  have e0 : 2 * j.val = 256 * (j.val / 128) + (2 * (j.val % 128) + 0) := by omega
  have e1 : 2 * j.val + 1 = 256 * (j.val / 128) + (2 * (j.val % 128) + 1) := by omega
  rw [e, codes_at, row_blk, row_blk]
  unfold Group.packed Group.code
  rw [e1, e0, ofNat128, ofNat128, ← pick_grp _ _ _ 0 (by omega) (by omega), ← pick_grp _ _ _ 1 (by omega) (by omega)]
  rfl

/-- The block's scales. -/
theorem scales_block (x : Vec Ideal S128x4096 .bf16) (R : Fin 128) (g : Fin 32) :
    scales x (ix2 R g) = Group.sc (Group.grp (brow x R) g.val) :=
  (scales_at _ _ _).trans (congrArg Group.sc (row_blk x R g.val))

/-- The block's zero points. -/
theorem zeros_block (x : Vec Ideal S128x4096 .bf16) (R : Fin 128) (g : Fin 32) :
    zeros x (ix2 R g) = Group.zb (Group.grp (brow x R) g.val) :=
  (zeros_at _ _ _).trans (congrArg Group.zb (row_blk x R g.val))

end Cert.KernelIdeal.Chunk
end
-- ==== Proof.KernelIdeal.Arrays.lean ====
module

public import proofs.«01_k».proof.Proof.KernelIdeal.Lanes
public import Idealize.ShloMosaic.Lib.Pipeline.ValueKit

/-! The quantiser's four result arrays, from the array of activations it reads: every row is the row's own
    function, whatever block it came in. -/

@[expose] public section
noncomputable section
namespace Cert.KernelIdeal.Chunk
open Cert.KernelIdeal.Gen Cert.KernelIdeal.Whole
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- Row `R` of the activations, as a function of the feature. -/
def xrow (X : Vec Ideal S6144x4096 .bf16) (R : Fin 6144) (d : ℕ) : EReal := X (ix2 R (Fin.ofNat 4096 d))

/-- Where a point's block of the input lies. -/
theorem index_in (t : Fin cfg0.N) : win0_0.index t 0 = t.val ∧ win0_0.index t 1 = 0 := by
  revert t; decide +kernel
/-- Where a point's block of the activations lies. -/
theorem index_acts (t : Fin cfg0.N) : win0_1.index t 0 = t.val ∧ win0_1.index t 1 = 0 := by
  revert t; decide +kernel
/-- Where a point's block of the codes lies. -/
theorem index_codes (t : Fin cfg0.N) : win0_2.index t 0 = t.val ∧ win0_2.index t 1 = 0 := by
  revert t; decide +kernel
/-- Where a point's block of the scales lies. -/
theorem index_scales (t : Fin cfg0.N) : win0_3.index t 0 = t.val ∧ win0_3.index t 1 = 0 := by
  revert t; decide +kernel
/-- Where a point's block of the zero points lies. -/
theorem index_zeros (t : Fin cfg0.N) : win0_4.index t 0 = t.val ∧ win0_4.index t 1 = 0 := by
  revert t; decide +kernel

/-- Row `R` of block `t` of the activations is row `128 t + R` of the array. -/
theorem brow_blk (c : Dev nD) (t : Fin cfg0.N) (R : Fin 128) (R' : Fin 6144) (h : R'.val = t.val * 128 + R.val) :
    brow (iblk0 V c 0 t) R = xrow (V c main_v0) R' := by
  funext d
  unfold brow xrow
  show V c main_v0 ((win0_0.blk t).view.emb (ix2 R (Fin.ofNat 4096 d))) = V c main_v0 (ix2 R' (Fin.ofNat 4096 d))
  congr 1
  funext a
  apply Fin.ext
  match a with
  | ⟨0, _⟩ =>
    show win0_0.index t 0 * 128 + 1 * R.val = R'.val
    rw [(index_in t).1, h, one_mul]
  | ⟨1, _⟩ =>
    show win0_0.index t 1 * 4096 + 1 * (d % 4096) = d % 4096
    rw [(index_in t).2]; omega

/-- The dequantised activations after the first region. -/
theorem acts_arr (c : Dev nD) : (dat0 V c).arrAt 1 cfg0.N = (fun j : S6144x4096.Idx => Group.deq (xrow (V c main_v0) (j 0)) (perm (j 1).val)) := by
  refine (dat0 V c).arrAt_eq_of_covers 1 _ (by decide +kernel) fun t hf y => ?_
  rw [after0_1]
  unfold outsAt0
  dsimp only
  rw [out_acts]
  blk_simp
  refine (congrArg _ (ix2_eta y).symm).trans ((acts_at _ (y 0) (y 1)).trans ?_)
  rw [brow_blk V c t (y 0) ((win0_1.blk t).view.emb y 0) ?_, (index_acts t).2, Nat.zero_mul, Nat.zero_add]
  show win0_1.index t 0 * 128 + 1 * (y 0).val = _
  rw [(index_acts t).1, one_mul]
/-- The packed codes after the first region. -/
theorem codes_arr (c : Dev nD) : (dat0 V c).arrAt 2 cfg0.N = (fun j : S6144x2048.Idx => Group.packed (xrow (V c main_v0) (j 0)) (j 1).val) := by
  refine (dat0 V c).arrAt_eq_of_covers 2 _ (by decide +kernel) fun t hf y => ?_
  rw [after0_2]
  unfold outsAt0
  dsimp only
  rw [out_codes]
  blk_simp
  refine (congrArg _ (ix2_eta y).symm).trans ((codes_block _ (y 0) (y 1)).trans ?_)
  rw [brow_blk V c t (y 0) ((win0_2.blk t).view.emb y 0) ?_, (index_codes t).2, Nat.zero_mul, Nat.zero_add]
  show win0_2.index t 0 * 128 + 1 * (y 0).val = _
  rw [(index_codes t).1, one_mul]
/-- The scales after the first region. -/
theorem scales_arr (c : Dev nD) : (dat0 V c).arrAt 3 cfg0.N = (fun j : S6144x32.Idx => Group.sc (Group.grp (xrow (V c main_v0) (j 0)) (j 1).val)) := by
  refine (dat0 V c).arrAt_eq_of_covers 3 _ (by decide +kernel) fun t hf y => ?_
  rw [after0_3]
  unfold outsAt0
  dsimp only
  rw [out_scales]
  blk_simp
  refine (congrArg _ (ix2_eta y).symm).trans ((scales_block _ (y 0) (y 1)).trans ?_)
  rw [brow_blk V c t (y 0) ((win0_3.blk t).view.emb y 0) ?_, (index_scales t).2, Nat.zero_mul, Nat.zero_add]
  show win0_3.index t 0 * 128 + 1 * (y 0).val = _
  rw [(index_scales t).1, one_mul]
/-- The zero points after the first region. -/
theorem zeros_arr (c : Dev nD) : (dat0 V c).arrAt 4 cfg0.N = (fun j : S6144x32.Idx => Group.zb (Group.grp (xrow (V c main_v0) (j 0)) (j 1).val)) := by
  refine (dat0 V c).arrAt_eq_of_covers 4 _ (by decide +kernel) fun t hf y => ?_
  rw [after0_4]
  unfold outsAt0
  dsimp only
  rw [out_zeros]
  blk_simp
  refine (congrArg _ (ix2_eta y).symm).trans ((zeros_block _ (y 0) (y 1)).trans ?_)
  rw [brow_blk V c t (y 0) ((win0_4.blk t).view.emb y 0) ?_, (index_zeros t).2, Nat.zero_mul, Nat.zero_add]
  show win0_4.index t 0 * 128 + 1 * (y 0).val = _
  rw [(index_zeros t).1, one_mul]
end Cert.KernelIdeal.Chunk
end
-- ==== Proof.KernelIdeal.Weight.lean ====
module

public import proofs.«01_k».proof.Proof.KernelIdeal.Blocks

/-! What the matrix product's region keeps in its scratch: the weight tile dequantised, as one function of the packed
    codes' tile and the scales' tile it read. A trip of the loop handles 32 rows, a chunk of it 128 columns of the packed
    codes, the low halves first and then the high halves. -/

@[expose] public section
noncomputable section
namespace Cert.KernelIdeal.Weight
open Cert.KernelIdeal.Gen Cert.KernelIdeal.Whole Cert.KernelIdeal.Chunk
open Idealize.ShloMosaic Idealize.ShloMosaic.TcCoe Idealize.ShloMosaic.Tactic
variable {F : FTy → Type} [FloatOps F]

/-- The dequantised columns at place `g` of a trip: the low halves of chunk `g / 2` for even `g`, the high ones for odd
    `g`; `w` the chunks of packed codes, `a` and `b` the scales of the trip's first and last 16 rows. -/
def wOf (w : ℕ → Vec F S32x128 .i8) (a b : Vec F S16x128 .f32) (g : ℕ) : Vec F S32x128 .bf16 :=
  if g % 2 = 0 then
    k1_pay73 252645135#32 (k1_pay4 a) (k1_pay5 b) (k1_pay6 2290649224#32 (w (g / 2)))
      (addi k1_pay1 (broadcast S16x128 (BitVec.ofNat 32 (2 * (g / 2))))) 0#32
  else
    k1_pay74 252645135#32 (k1_pay4 a) (k1_pay5 b) (k1_pay6 2290649224#32 (w (g / 2)))
      (addi k1_pay1 (broadcast S16x128 (BitVec.ofNat 32 (2 * (g / 2))))) 0#32

/-- Rows `32 k …` of chunk `c` of the packed codes. -/
def wblk (x : Vec F S1024x2048 .i8) (k c : ℕ) : Vec F S32x128 .i8 := fun y =>
  x (ix2 (Fin.ofNat 1024 (32 * k + (y 0).val)) (Fin.ofNat 2048 (128 * c + (y 1).val)))

/-- Rows `16 r …` of the scales. -/
def sblk (x : Vec F S1024x128 .f32) (r : ℕ) : Vec F S16x128 .f32 := fun y =>
  x (ix2 (Fin.ofNat 1024 (16 * r + (y 0).val)) (y 1))

/-- A load of packed weights. -/
theorem wload_eq {κ : Kind} {sp : Space} (v : View sig κ sp S1024x2048 .i8) (X : BufTy.Contents (Elt F) v.ty) {o : Fin 2 → ℕ} {k c : ℕ}
    (h : ∀ a, o a + S32x128.size a ≤ S1024x2048.size a) (ho : o = ![32 * k, 128 * c]) :
    v.readAt (Elt F) (Rect.unit (s := S1024x2048) o S32x128.size h).toLoadRect X = wblk (v.read (Elt F) X) k c := by
  subst ho
  funext y
  refine congrArg (v.read (Elt F) X) (funext fun a => Fin.ext ?_)
  have h0 := h 0
  have h1 := h 1
  have y0 := (y 0).isLt
  have y1 := (y 1).isLt
  match a with
  | ⟨0, _⟩ =>
    show 32 * k + 1 * (y 0).val = (32 * k + (y 0).val) % 1024
    change 32 * k + 32 ≤ 1024 at h0
    change (y 0).val < 32 at y0
    omega
  | ⟨1, _⟩ =>
    show 128 * c + 1 * (y 1).val = (128 * c + (y 1).val) % 2048
    change 128 * c + 128 ≤ 2048 at h1
    change (y 1).val < 128 at y1
    omega

/-- A load of scales. -/
theorem sload_eq {κ : Kind} {sp : Space} (v : View sig κ sp S1024x128 .f32) (X : BufTy.Contents (Elt F) v.ty) {o : Fin 2 → ℕ} {r : ℕ}
    (h : ∀ a, o a + S16x128.size a ≤ S1024x128.size a) (ho : o = ![16 * r, 0]) :
    v.readAt (Elt F) (Rect.unit (s := S1024x128) o S16x128.size h).toLoadRect X = sblk (v.read (Elt F) X) r := by
  subst ho
  funext y
  refine congrArg (v.read (Elt F) X) (funext fun a => Fin.ext ?_)
  have h0 := h 0
  have y0 := (y 0).isLt
  match a with
  | ⟨0, _⟩ =>
    show 16 * r + 1 * (y 0).val = (16 * r + (y 0).val) % 1024
    change 16 * r + 16 ≤ 1024 at h0
    change (y 0).val < 16 at y0
    omega
  | ⟨1, _⟩ =>
    show 0 + 1 * (y 1).val = (y 1).val
    omega

section
variable (i : grid1.Coords) (h1 : k1_cond1 i = 1#1)

/-- Where trip `k` reads chunk `c` of the packed codes. -/
def offW (k : Fin k1_t1_loop.trips) : Fin 16 → Σ' o : Fin 2 → ℕ, ∀ a, o a + S32x128.size a ≤ S1024x2048.size a := ![
  ⟨k1_off2 k, k1_off2_inb i k h1⟩, ⟨k1_off5 k, k1_off5_inb i k h1⟩, ⟨k1_off8 k, k1_off8_inb i k h1⟩, ⟨k1_off11 k, k1_off11_inb i k h1⟩,
  ⟨k1_off14 k, k1_off14_inb i k h1⟩, ⟨k1_off17 k, k1_off17_inb i k h1⟩, ⟨k1_off20 k, k1_off20_inb i k h1⟩, ⟨k1_off23 k, k1_off23_inb i k h1⟩,
  ⟨k1_off26 k, k1_off26_inb i k h1⟩, ⟨k1_off29 k, k1_off29_inb i k h1⟩, ⟨k1_off32 k, k1_off32_inb i k h1⟩, ⟨k1_off35 k, k1_off35_inb i k h1⟩,
  ⟨k1_off38 k, k1_off38_inb i k h1⟩, ⟨k1_off41 k, k1_off41_inb i k h1⟩, ⟨k1_off44 k, k1_off44_inb i k h1⟩, ⟨k1_off47 k, k1_off47_inb i k h1⟩]

/-- Where a chunk of packed weights begins. -/
theorem offW_eq : ∀ (k : Fin k1_t1_loop.trips) (c : Fin 16), (offW i h1 k c).1 = ![32 * k.val, 128 * c.val] := by
  intro k c
  fin_cases c
  exacts [k1_off2_eq k, k1_off5_eq k, k1_off8_eq k, k1_off11_eq k, k1_off14_eq k, k1_off17_eq k, k1_off20_eq k, k1_off23_eq k, k1_off26_eq k, k1_off29_eq k, k1_off32_eq k, k1_off35_eq k, k1_off38_eq k, k1_off41_eq k, k1_off44_eq k, k1_off47_eq k]

/-- Where trip `k` stores its columns at place `g`. -/
def offS (k : Fin k1_t1_loop.trips) : Fin 32 → Σ' o : Fin 2 → ℕ, ∀ a, o a + S32x128.size a ≤ S1024x4096.size a := ![
  ⟨k1_off3 k, k1_off3_inb i k h1⟩, ⟨k1_off4 k, k1_off4_inb i k h1⟩, ⟨k1_off6 k, k1_off6_inb i k h1⟩, ⟨k1_off7 k, k1_off7_inb i k h1⟩,
  ⟨k1_off9 k, k1_off9_inb i k h1⟩, ⟨k1_off10 k, k1_off10_inb i k h1⟩, ⟨k1_off12 k, k1_off12_inb i k h1⟩, ⟨k1_off13 k, k1_off13_inb i k h1⟩,
  ⟨k1_off15 k, k1_off15_inb i k h1⟩, ⟨k1_off16 k, k1_off16_inb i k h1⟩, ⟨k1_off18 k, k1_off18_inb i k h1⟩, ⟨k1_off19 k, k1_off19_inb i k h1⟩,
  ⟨k1_off21 k, k1_off21_inb i k h1⟩, ⟨k1_off22 k, k1_off22_inb i k h1⟩, ⟨k1_off24 k, k1_off24_inb i k h1⟩, ⟨k1_off25 k, k1_off25_inb i k h1⟩,
  ⟨k1_off27 k, k1_off27_inb i k h1⟩, ⟨k1_off28 k, k1_off28_inb i k h1⟩, ⟨k1_off30 k, k1_off30_inb i k h1⟩, ⟨k1_off31 k, k1_off31_inb i k h1⟩,
  ⟨k1_off33 k, k1_off33_inb i k h1⟩, ⟨k1_off34 k, k1_off34_inb i k h1⟩, ⟨k1_off36 k, k1_off36_inb i k h1⟩, ⟨k1_off37 k, k1_off37_inb i k h1⟩,
  ⟨k1_off39 k, k1_off39_inb i k h1⟩, ⟨k1_off40 k, k1_off40_inb i k h1⟩, ⟨k1_off42 k, k1_off42_inb i k h1⟩, ⟨k1_off43 k, k1_off43_inb i k h1⟩,
  ⟨k1_off45 k, k1_off45_inb i k h1⟩, ⟨k1_off46 k, k1_off46_inb i k h1⟩, ⟨k1_off48 k, k1_off48_inb i k h1⟩, ⟨k1_off49 k, k1_off49_inb i k h1⟩]

/-- Where a store into the scratch begins. -/
theorem offS_eq : ∀ (k : Fin k1_t1_loop.trips) (g : Fin 32), (offS i h1 k g).1 = ![32 * k.val, 128 * g.val] := by
  intro k g
  fin_cases g
  exacts [k1_off3_eq k, k1_off4_eq k, k1_off6_eq k, k1_off7_eq k, k1_off9_eq k, k1_off10_eq k, k1_off12_eq k, k1_off13_eq k, k1_off15_eq k, k1_off16_eq k, k1_off18_eq k, k1_off19_eq k, k1_off21_eq k, k1_off22_eq k, k1_off24_eq k, k1_off25_eq k, k1_off27_eq k, k1_off28_eq k, k1_off30_eq k, k1_off31_eq k, k1_off33_eq k, k1_off34_eq k, k1_off36_eq k, k1_off37_eq k, k1_off39_eq k, k1_off40_eq k, k1_off42_eq k, k1_off43_eq k, k1_off45_eq k, k1_off46_eq k, k1_off48_eq k, k1_off49_eq k]

/-- What trip `k` reads of chunk `c` of the packed codes. -/
def wloads {κ : Kind} {sp : Space} (v : View sig κ sp S1024x2048 .i8) (X : BufTy.Contents (Elt F) v.ty) (k : Fin k1_t1_loop.trips) (c : ℕ) :
    Vec F S32x128 .i8 :=
  v.readAt (Elt F) (Rect.unit (s := S1024x2048) (offW i h1 k (Fin.ofNat 16 c)).1 S32x128.size (offW i h1 k (Fin.ofNat 16 c)).2).toLoadRect X

/-- What a trip loads of the packed weights. -/
theorem wloads_eq {κ : Kind} {sp : Space} (v : View sig κ sp S1024x2048 .i8) (X : BufTy.Contents (Elt F) v.ty) (k : Fin k1_t1_loop.trips) (c : ℕ)
    (hc : c < 16) : wloads i h1 v X k c = wblk (v.read (Elt F) X) k c :=
  wload_eq v X _ ((offW_eq i h1 k _).trans (by rw [Fin.val_ofNat, Nat.mod_eq_of_lt hc]))

/-- What trip `k` reads of the scales: its first 16 rows (`r = 0`) or its last (`r = 1`). -/
def sloads {κ : Kind} {sp : Space} (v : View sig κ sp S1024x128 .f32) (X : BufTy.Contents (Elt F) v.ty) (k : Fin k1_t1_loop.trips) (r : Fin 2) :
    Vec F S16x128 .f32 :=
  v.readAt (Elt F) (Rect.unit (s := S1024x128) (k1_off1 k (BitVec.ofNat 32 (16 * r.val))) S16x128.size (k1_off1_inb i k h1 r)).toLoadRect X

/-- What a trip loads of the scales. -/
theorem sloads_eq {κ : Kind} {sp : Space} (v : View sig κ sp S1024x128 .f32) (X : BufTy.Contents (Elt F) v.ty) (k : Fin k1_t1_loop.trips) (r : Fin 2) :
    sloads i h1 v X k r = sblk (v.read (Elt F) X) (2 * k.val + r.val) :=
  sload_eq v X _ ((k1_off1_eq k r).trans (by rw [show 32 * k.val + 16 * r.val = 16 * (2 * k.val + r.val) by omega]))
end

/-- The dequantised weight tile. -/
def tile (x1 : Vec F S1024x2048 .i8) (x2 : Vec F S1024x128 .f32) : Vec F S1024x4096 .bf16 := fun j =>
  wOf (wblk x1 ((j 0).val / 32)) (sblk x2 (2 * ((j 0).val / 32))) (sblk x2 (2 * ((j 0).val / 32) + 1)) ((j 1).val / 128)
    (ix2 (Fin.ofNat 32 (j 0).val) (Fin.ofNat 128 (j 1).val))

section
variable (𝒱 : Variants) (c : Dev nD) (bd : Option 𝒱.V) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole) (h1 : k1_cond1 i = 1#1)
  (X3 : BufTy.Contents (Elt F) arg3.view.ty) (X4 : BufTy.Contents (Elt F) arg4.view.ty)

/-- A trip's stores. -/
theorem trip_list (k : Fin k1_t1_loop.trips) : tripL_k1_t1 𝒱 c bd i arg2 harg2 arg3 harg3 arg4 harg4 arg5 harg5 arg6 harg6 h1 X3 X4 k
    = (List.finRange 32).reverse.map fun g => ⟨Rect.unit (s := S1024x4096) (offS i h1 k g).1 ![32, 128] (offS i h1 k g).2,
        wOf (wloads i h1 arg3.view X3 k) (sloads i h1 arg4.view X4 k 0) (sloads i h1 arg4.view X4 k 1) g.val⟩ := by
  sl_kernel_rfl

/-- A store reads the 16 chunks only. -/
theorem wOf_congr {w w' : ℕ → Vec F S32x128 .i8} {a b : Vec F S16x128 .f32} {g : ℕ} (hg : g < 32) (h : ∀ c < 16, w c = w' c) : wOf w a b g = wOf w' a b g := by
  unfold wOf
  rw [h _ (by omega)]

/-- What a trip stores is its part of the dequantised weights. -/
theorem trip_eq (k : Fin k1_t1_loop.trips) : ∀ p ∈ tripL_k1_t1 𝒱 c bd i arg2 harg2 arg3 harg3 arg4 harg4 arg5 harg5 arg6 harg6 h1 X3 X4 k,
    ∀ y, p.2 y = tile (arg3.view.read (Elt F) X3) (arg4.view.read (Elt F) X4) (p.1.emb y) := by
  rw [trip_list]
  intro p hp y
  obtain ⟨g, -, rfl⟩ := List.mem_map.1 hp
  refine Eq.trans ?_ (tile_emb (R := 1024) (N := 4096) (q := 128) (k := k.val) (g := g.val) (o := (offS i h1 k g).1)
    (fun k g => wOf (wblk (arg3.view.read (Elt F) X3) k) (sblk (arg4.view.read (Elt F) X4) (2 * k)) (sblk (arg4.view.read (Elt F) X4) (2 * k + 1)) g)
    (offS_eq i h1 k g) (offS i h1 k g).2 y (by decide)).symm
  dsimp only
  rw [sloads_eq, sloads_eq]
  exact congrFun (wOf_congr g.isLt fun c hc => wloads_eq i h1 arg3.view X3 k c hc) y

/-- All the stores of the trips before `n` agree with the tile. -/
theorem pieces : ∀ n ≤ k1_t1_loop.trips, ∀ p ∈ pb_k1_t1 𝒱 c bd i arg2 harg2 arg3 harg3 arg4 harg4 arg5 harg5 arg6 harg6 h1 X3 X4 n,
    ∀ y, p.2 y = tile (arg3.view.read (Elt F) X3) (arg4.view.read (Elt F) X4) (p.1.emb y)
  | 0, _ => by
    rw [pb_k1_t1.eq_1]
    exact fun _ h => absurd h List.not_mem_nil
  | n + 1, hn => by
    have ih := pieces n (Nat.le_of_succ_le hn)
    rw [pb_k1_t1_succ 𝒱 c bd i arg2 harg2 arg3 harg3 arg4 harg4 arg5 harg5 arg6 harg6 h1 X3 X4 ⟨n, hn⟩]
    exact fun p h => (List.mem_append.1 h).elim (trip_eq _ _ _ _ _ _ _ _ _ _ _ _ _ _ _ _ _ _ p) (ih p)
end
end Cert.KernelIdeal.Weight
end
-- ==== Proof.KernelIdeal.WeightLanes.lean ====
module

public import proofs.«01_k».proof.Proof.KernelIdeal.Weight
public import proofs.«01_k».proof.Proof.KernelIdeal.Lanes

/-! The dequantised weight tile over the extended reals, element by element: which packed byte, which half of it and which
    scale each column comes from. -/

@[expose] public section
noncomputable section
namespace Cert.KernelIdeal.Weight
open Cert.KernelIdeal.Gen Cert.KernelIdeal.Whole Cert.KernelIdeal.Chunk Cert.Words
open Idealize.ShloMosaic Idealize.ShloMosaic.TcCoe Idealize.ShloMosaic.Tactic

/-- Row `r` of the two halves of a trip's scales. -/
def srow (a b : Vec Ideal S16x128 .f32) (r : Fin 32) (g : Fin 128) : EReal :=
  if h : r.val < 16 then a (ix2 ⟨r.val, h⟩ g) else b (ix2 ⟨r.val - 16, by omega⟩ g)

/-- The gathered scales. -/
theorem scale_at (a b : Vec Ideal S16x128 .f32) (c : Fin 16) (r : Fin 32) (l : Fin 128) :
    k1_pay72 (k1_pay4 a) (k1_pay5 b) (addi k1_pay1 (broadcast S16x128 (BitVec.ofNat 32 (2 * c.val)))) 0#32 (ix2 r l)
      = srow a b r (Fin.ofNat 128 (2 * c.val + l.val / 64)) := by
  have h : ∀ (c : Fin 16) (l : Fin 128), (Scalar.select (IntOp.cmpi .slt (IntOp.addi (BitVec.setWidth 32 (IntOp.cmpi .sge (BitVec.ofNat 32 l.val) 64#32)) (BitVec.ofNat 32 (2 * c.val))) 0#32)
      (IntOp.addi (IntOp.addi (BitVec.setWidth 32 (IntOp.cmpi .sge (BitVec.ofNat 32 l.val) 64#32)) (BitVec.ofNat 32 (2 * c.val))) 128#32)
      (IntOp.addi (BitVec.setWidth 32 (IntOp.cmpi .sge (BitVec.ofNat 32 l.val) 64#32)) (BitVec.ofNat 32 (2 * c.val)))).toNat % 128
      = (2 * c.val + l.val / 64) % 128 := by decide +kernel
  unfold k1_pay72 srow
  pointwise [k1_pay1, k1_pay4, k1_pay5]
  split
  · exact congrArg (fun g => a (ix2 _ g)) (Fin.ext (h c l))
  · exact congrArg (fun g => b (ix2 _ g)) (Fin.ext (h c l))

/-- The bytes of the packed codes with bits 3 and 7 flipped. -/
theorem flip_at (w : Vec Ideal S32x128 .i8) (r : Fin 32) (l : Fin 128) :
    wb (k1_pay6 2290649224#32 w (ix2 (quarter r) l)) (r.val % 4) = w (ix2 r l) ^^^ 136#8 := by
  have h : ∀ p : Fin 4, wb 2290649224#32 p.val = 136#8 := by decide +kernel
  unfold k1_pay6
  pointwise
  refine (wb_xor _ _ _).trans ?_
  rw [byte_at, h ⟨r.val % 4, by omega⟩]

/-- The low half of a byte with its sign bits flipped, less eight. -/
theorem flip_low : ∀ b : BitVec 8, ((b ^^^ 136#8) &&& 15#8).toInt - 8 = Group.i4 b 0 := by decide +kernel
/-- The high half of a byte with its sign bits flipped, less eight. -/
theorem flip_high : ∀ b : BitVec 8, ((b ^^^ 136#8) >>> 4).toInt - 8 = Group.i4 b 1 := by decide +kernel

/-- The dequantised columns at place `2 c + h` of a trip. -/
theorem w_at (w : ℕ → Vec Ideal S32x128 .i8) (a b : Vec Ideal S16x128 .f32) (c : Fin 16) (h : Fin 2) (r : Fin 32) (l : Fin 128) :
    wOf w a b (2 * c.val + h.val) (ix2 r l)
      = ((Group.i4 (w c.val (ix2 r l)) h.val : ℝ) : EReal) * srow a b r (Fin.ofNat 128 (2 * c.val + l.val / 64)) := by
  unfold wOf
  rw [show (2 * c.val + h.val) / 2 = c.val by omega]
  have hh : h = 0 ∨ h = 1 := by omega
  rcases hh with rfl | rfl
  · rw [if_pos (by show (2 * c.val + 0) % 2 = 0; omega)]
    unfold k1_pay73
    pointwise
    rw [scale_at, bitcast_wb _ _ r l (quarter r) rfl, Group.bits_eight]
    congr 1
    have e : wb (andi (k1_pay6 2290649224#32 (w c.val)) (broadcast S8x128 252645135#32) (ix2 (quarter r) l)) (r.val % 4) = (w c.val (ix2 r l) ^^^ 136#8) &&& 15#8 :=
      (wb_low _ _ (by omega)).trans (by rw [flip_at])
    rw [e]
    show ((((w c.val (ix2 r l) ^^^ 136#8) &&& 15#8).toInt : ℝ) : EReal) - ((8 : ℝ) : EReal) = ((Group.i4 (w c.val (ix2 r l)) 0 : ℝ) : EReal)
    rw [← flip_low, ← EReal.coe_sub]
    push_cast
    rfl
  · rw [if_neg (by show ¬ (2 * c.val + 1) % 2 = 0; omega)]
    unfold k1_pay74
    pointwise
    rw [scale_at, bitcast_wb _ _ r l (quarter r) rfl, Group.bits_eight]
    congr 1
    have e : wb (andi (shrui (k1_pay6 2290649224#32 (w c.val)) (broadcast S8x128 4#32)) (broadcast S8x128 252645135#32) (ix2 (quarter r) l)) (r.val % 4) = (w c.val (ix2 r l) ^^^ 136#8) >>> 4 :=
      (wb_high _ _ (by omega)).trans (by rw [flip_at])
    rw [e]
    show ((((w c.val (ix2 r l) ^^^ 136#8) >>> 4).toInt : ℝ) : EReal) - ((8 : ℝ) : EReal) = ((Group.i4 (w c.val (ix2 r l)) 1 : ℝ) : EReal)
    rw [← flip_high, ← EReal.coe_sub]
    push_cast
    rfl

/-- Row `R` of the packed codes' tile and of the scales' tile, as functions of the column. -/
def wrow (x1 : Vec Ideal S1024x2048 .i8) (R : Fin 1024) (d : ℕ) : BitVec 8 := x1 (ix2 R (Fin.ofNat 2048 d))
/-- A row of the padded scales. -/
def scrow (x2 : Vec Ideal S1024x128 .f32) (R : Fin 1024) (g : ℕ) : EReal := x2 (ix2 R (Fin.ofNat 128 g))

/-- A row of a block's scales is a row of the array's. -/
theorem srow_blk (x2 : Vec Ideal S1024x128 .f32) (R : Fin 1024) (g : ℕ) :
    srow (sblk x2 (2 * (R.val / 32))) (sblk x2 (2 * (R.val / 32) + 1)) (Fin.ofNat 32 R.val) (Fin.ofNat 128 g) = scrow x2 R g := by
  have hR := R.isLt
  unfold srow sblk scrow
  split
  · next h =>
    change R.val % 32 < 16 at h
    exact congrArg (fun q => x2 (ix2 q (Fin.ofNat 128 g))) (Fin.ext (by
      show (16 * (2 * (R.val / 32)) + R.val % 32) % 1024 = R.val; omega))
  · next h =>
    change ¬ R.val % 32 < 16 at h
    exact congrArg (fun q => x2 (ix2 q (Fin.ofNat 128 g))) (Fin.ext (by
      show (16 * (2 * (R.val / 32) + 1) + (R.val % 32 - 16)) % 1024 = R.val; omega))

/-- The dequantised weight tile: within each chunk of 256 columns the even ones come first. -/
theorem tile_at (x1 : Vec Ideal S1024x2048 .i8) (x2 : Vec Ideal S1024x128 .f32) (R : Fin 1024) (k : Fin 4096) :
    tile x1 x2 (ix2 R k) = Group.wdq (wrow x1 R) (scrow x2 R) (perm k.val) := by
  have hk := k.isLt
  have hR := R.isLt
  have e : tile x1 x2 (ix2 R k) = wOf (wblk x1 (R.val / 32)) (sblk x2 (2 * (R.val / 32))) (sblk x2 (2 * (R.val / 32) + 1)) (k.val / 128)
      (ix2 (Fin.ofNat 32 R.val) (Fin.ofNat 128 k.val)) := rfl
  have hw := w_at (wblk x1 (R.val / 32)) (sblk x2 (2 * (R.val / 32))) (sblk x2 (2 * (R.val / 32) + 1)) ⟨k.val / 256, by omega⟩ ⟨k.val / 128 % 2, by omega⟩
    (Fin.ofNat 32 R.val) (Fin.ofNat 128 k.val)
  dsimp only at hw
  rw [show 2 * (k.val / 256) + k.val / 128 % 2 = k.val / 128 by omega] at hw
  rw [e, hw, srow_blk]
  unfold Group.wdq perm wblk wrow
  rw [show (256 * (k.val / 256) + (2 * (k.val % 128) + k.val / 128 % 2)) / 2 = 128 * (k.val / 256) + k.val % 128 by omega,
    show (256 * (k.val / 256) + (2 * (k.val % 128) + k.val / 128 % 2)) % 2 = k.val / 128 % 2 by omega,
    show (256 * (k.val / 256) + (2 * (k.val % 128) + k.val / 128 % 2)) / 128 = 2 * (k.val / 256) + (k.val % 128) / 64 by omega]
  have er : Fin.ofNat 1024 (32 * (R.val / 32) + R.val % 32) = R := Fin.ext (by show (32 * (R.val / 32) + R.val % 32) % 1024 = R.val; omega)
  show ((Group.i4 (x1 (ix2 (Fin.ofNat 1024 (32 * (R.val / 32) + R.val % 32)) (Fin.ofNat 2048 (128 * (k.val / 256) + k.val % 128)))) _ : ℝ) : EReal) * _ = _
  rw [er]
  rfl
end Cert.KernelIdeal.Weight
end
-- ==== Proof.KernelIdeal.Body.lean ====
module

public import proofs.«01_k».proof.Proof.KernelIdeal.WeightLanes
public import Idealize.ShloMosaic.Lib.Pipeline.ValueKit
public import Idealize.ShloMosaic.Lib.VecWindow

/-! What a point of the second kernel leaves: the dequantised weight tile in the scratch (dequantised at the
    first point of each row of the grid, kept by the other five), and the product of the activation block with it. -/

@[expose] public section
noncomputable section
namespace Cert.KernelIdeal.Weight
open Cert.KernelIdeal.Gen Cert.KernelIdeal.Whole
open Idealize.ShloMosaic Idealize.ShloMosaic.TcCoe Idealize.ShloMosaic.Tactic
open Idealize.ShloMosaic.Pipeline (Dat Cfg Window)
variable {F : FTy → Type} [FloatOps F]

section
variable (c : Dev nD) (i : grid1.Coords) (arg2 : Memref sig .tc .vmem S1024x4096 .bf16) (harg2 : arg2.IsWhole) (arg3 : Memref sig .tc .vmem S1024x2048 .i8) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S1024x4096 .bf16) (harg6 : arg6.IsWhole)
  (x0 : Vec F S1024x4096 .bf16) (x1 : Vec F S1024x2048 .i8) (x2 : Vec F S1024x128 .f32)

/-- The point that unpacks leaves the dequantised weights in the scratch. -/
theorem sout_A (h : cond1_0 i) : sout1_A_0 c i arg2 harg2 arg3 harg3 arg4 harg4 arg5 harg5 arg6 harg6 h x0 x1 x2 = tile x1 x2 := by
  funext y
  have hp := pieces Variants.none c none i arg2 harg2 arg3 harg3 arg4 harg4 arg5 harg5 arg6 harg6 h (harg3.unread x1) (harg4.unread x2) k1_t1_loop.trips le_rfl
  rw [harg3.read_unread, harg4.read_unread] at hp
  exact View.read_writes_apply_of_pieces _ _ (tile x1 x2) _ hp y (scover1_A_0 c i arg2 harg2 arg3 harg3 arg4 harg4 arg5 harg5 arg6 harg6 h x0 x1 x2 y)

/-- The point that unpacks multiplies by the weights it unpacked. -/
theorem out_A (h : cond1_0 i) : out1_A_3 c i arg2 harg2 arg3 harg3 arg4 harg4 arg5 harg5 arg6 harg6 h x0 x1 x2 = k1_pay3 x0 (tile x1 x2) := by
  have hp := pieces Variants.none c none i arg2 harg2 arg3 harg3 arg4 harg4 arg5 harg5 arg6 harg6 h (harg3.unread x1) (harg4.unread x2)
    (Scf.trips (0#32) (Scalar.addi 0#32 32#32) 1#32) (le_of_eq rfl)
  rw [harg3.read_unread, harg4.read_unread] at hp
  have hc := scover1_A_0 c i arg2 harg2 arg3 harg3 arg4 harg4 arg5 harg5 arg6 harg6 h x0 x1 x2
  unfold kernelRun1_A at hc
  dsimp only at hc
  unfold out1_A_3 kernelRun1_A
  dsimp only
  rw [View.read_writes_full]
  refine congrArg₂ k1_pay3 ((View.readAt_full _ _ inb_S1024x4096_S1024x4096_0_0).trans (harg2.read_unread x0)) ?_
  unfold View.readCov
  refine (View.readAt_full _ _ inb_S1024x4096_S1024x4096_0_0).trans ?_
  funext y
  exact View.read_writes_apply_of_pieces _ _ (tile x1 x2) _ hp y (hc y)

/-- Every other point multiplies by the weights in the scratch. -/
theorem out_B (h : ¬ cond1_0 i) (xs : Vec F S1024x4096 .bf16) : out1_B_3 c i arg2 harg2 arg3 harg3 arg4 harg4 arg5 harg5 arg6 harg6 h x0 x1 x2 xs = k1_pay3 x0 xs := by
  unfold out1_B_3 kernelRun1_B
  dsimp only
  rw [View.read_writes_full]
  exact congrArg₂ k1_pay3 ((View.readAt_full _ _ inb_S1024x4096_S1024x4096_0_0).trans (harg2.read_unread x0))
    ((View.readAt_full _ _ inb_S1024x4096_S1024x4096_0_0).trans (harg6.read_unread xs))
end

/-! ### Over the grid's points -/

section
variable (V : (c : Dev nD) → (b : Ref sig .tc) → Buf (Elt F) ((c : Thread nD τ).loc b))

/-- The first point of `t`'s row of the grid. -/
def row0 (n : ℕ) (h : n < cfg1.N) : Fin cfg1.N := ⟨n / 6 * 6, lt_of_le_of_lt (Nat.div_mul_le_self n 6) h⟩

/-- The scratch after a point that unpacks. -/
theorem scratch_A (c : Dev nD) (t : Fin cfg1.N) (h0 : t.val % 6 = 0) : (outsAt1 V c t.val t.isLt).2 = tile (iblk1 V c 1 t) (iblk1 V c 2 t) := by
  rw [outsAt1_A V c t h0]
  dsimp only
  rw [sout_A]
/-- The scratch after any other point. -/
theorem scratch_B (c : Dev nD) (t : Fin cfg1.N) (h0 : ¬ t.val % 6 = 0) (h : t.val - 1 < cfg1.N) : (outsAt1 V c t.val t.isLt).2 = (outsAt1 V c (t.val - 1) h).2 := by
  rw [outsAt1_B V c t h0]
  dsimp only [sout1_B_0]
/-- The result of a point that unpacks. -/
theorem result_A (c : Dev nD) (t : Fin cfg1.N) (h0 : t.val % 6 = 0) : (outsAt1 V c t.val t.isLt).1 = k1_pay3 (iblk1 V c 0 t) (tile (iblk1 V c 1 t) (iblk1 V c 2 t)) := by
  rw [outsAt1_A V c t h0]
  dsimp only
  rw [out_A]
/-- The result of any other point. -/
theorem result_B (c : Dev nD) (t : Fin cfg1.N) (h0 : ¬ t.val % 6 = 0) (h : t.val - 1 < cfg1.N) : (outsAt1 V c t.val t.isLt).1 = k1_pay3 (iblk1 V c 0 t) (outsAt1 V c (t.val - 1) h).2 := by
  rw [outsAt1_B V c t h0]
  dsimp only
  rw [out_B]

/-- After every point the scratch holds the tile of the row's first point. -/
theorem scratch (c : Dev nD) (n : ℕ) (h : n < cfg1.N) :
    (outsAt1 V c n h).2 = tile (iblk1 V c 1 (row0 n h)) (iblk1 V c 2 (row0 n h)) := by
  induction n with
  | zero => exact scratch_A V c ⟨0, h⟩ rfl
  | succ n ih =>
    by_cases h0 : (n + 1) % 6 = 0
    · rw [show row0 (n + 1) h = ⟨n + 1, h⟩ from Fin.ext (by show (n + 1) / 6 * 6 = n + 1; omega)]
      exact scratch_A V c ⟨n + 1, h⟩ h0
    · rw [show row0 (n + 1) h = row0 n (Nat.lt_of_succ_lt h) from Fin.ext (by show (n + 1) / 6 * 6 = n / 6 * 6; omega), ← ih]
      exact scratch_B V c ⟨n + 1, h⟩ h0 (Nat.lt_of_succ_lt h)

/-- What a point leaves in its block of the result. -/
theorem result (c : Dev nD) (t : Fin cfg1.N) :
    (outsAt1 V c t.val t.isLt).1 = k1_pay3 (iblk1 V c 0 t) (tile (iblk1 V c 1 (row0 t.val t.isLt)) (iblk1 V c 2 (row0 t.val t.isLt))) := by
  by_cases h0 : t.val % 6 = 0
  · rw [result_A V c t h0, show row0 t.val t.isLt = t from Fin.ext (by show t.val / 6 * 6 = t.val; omega)]
  · have ht : t.val - 1 < cfg1.N := lt_of_le_of_lt (Nat.sub_le _ _) t.isLt
    rw [result_B V c t h0 ht, scratch V c (t.val - 1) ht,
      show row0 (t.val - 1) ht = row0 t.val t.isLt from Fin.ext (by show (t.val - 1) / 6 * 6 = t.val / 6 * 6; omega)]
end
end Cert.KernelIdeal.Weight
end
-- ==== Proof.KernelIdeal.Result.lean ====
module

public import proofs.«01_k».proof.Proof.KernelIdeal.Body
public import proofs.«01_k».proof.Proof.KernelIdeal.Arrays
public import Idealize.ShloMosaic.Lib.Pointwise

/-! The product array of the second kernel, from the arrays it reads. -/

@[expose] public section
noncomputable section
namespace Cert.KernelIdeal.Weight
open Cert.KernelIdeal.Gen Cert.KernelIdeal.Whole Cert.KernelIdeal.Chunk
open Idealize.ShloMosaic Idealize.ShloMosaic.TcCoe Idealize.ShloMosaic.Tactic
open Idealize.ShloMosaic.Pipeline (Dat Cfg Window)

/-- The product of a block by a tile of weights. -/
theorem pay3_at (x w : Vec Ideal S1024x4096 .bf16) (R n : Fin 1024) : k1_pay3 x w (ix2 R n) = ∑ k : Fin 4096, x (ix2 R k) * w (ix2 n k) := by
  unfold k1_pay3
  pointwise

variable (V : (c : Dev nD) → (b : Ref sig .tc) → Buf (Elt Ideal) ((c : Thread nD τ).loc b))

/-- Where a point's block of the activations lies. -/
theorem index_x (t : Fin cfg1.N) : win1_0.index t 0 = t.val % 6 ∧ win1_0.index t 1 = 0 := by
  revert t; decide +kernel
/-- Where a point's block of the packed weights lies. -/
theorem index_w (t : Fin cfg1.N) : win1_1.index t 0 = t.val / 6 ∧ win1_1.index t 1 = 0 := by
  revert t; decide +kernel
/-- Where a point's block of the scales lies. -/
theorem index_s (t : Fin cfg1.N) : win1_2.index t 0 = t.val / 6 ∧ win1_2.index t 1 = 0 := by
  revert t; decide +kernel
/-- Where a point's block of the product lies. -/
theorem index_y (t : Fin cfg1.N) : win1_3.index t 0 = t.val % 6 ∧ win1_3.index t 1 = t.val / 6 := by
  revert t; decide +kernel

/-- A row of the packed codes and a row of the padded scales, as functions of the column. -/
def wprow (W : Vec Ideal S14336x2048 .i8) (R : Fin 14336) (d : ℕ) : BitVec 8 := W (ix2 R (Fin.ofNat 2048 d))
def wsrow (W : Vec Ideal S14336x128 .f32) (R : Fin 14336) (g : ℕ) : EReal := W (ix2 R (Fin.ofNat 128 g))

/-- A row of the dequantised activations, and one term of the product. -/
def acrow (A : Vec Ideal S6144x4096 .bf16) (R : Fin 6144) (k : Fin 4096) : EReal := A (ix2 R k)
def pterm (A : Vec Ideal S6144x4096 .bf16) (W : Vec Ideal S14336x2048 .i8) (S : Vec Ideal S14336x128 .f32) (R : Fin 6144) (n : Fin 14336) (k : Fin 4096) : EReal :=
  acrow A R k * Group.wdq (wprow W n) (wsrow S n) (perm k.val)

/-- A row of the point's activations. -/
theorem x_blk (c : Dev nD) (t : Fin cfg1.N) (R : Fin 1024) (R' : Fin 6144) (h : R'.val = t.val % 6 * 1024 + R.val) (k : Fin 4096) :
    iblk1 V c 0 t (ix2 R k) = acrow (V c main_v1_0) R' k := by
  show V c main_v1_0 ((win1_0.blk t).view.emb (ix2 R k)) = V c main_v1_0 (ix2 R' k)
  congr 1
  funext a
  apply Fin.ext
  match a with
  | ⟨0, _⟩ =>
    show win1_0.index t 0 * 1024 + 1 * R.val = R'.val
    rw [(index_x t).1, h, one_mul]
  | ⟨1, _⟩ =>
    show win1_0.index t 1 * 4096 + 1 * k.val = k.val
    rw [(index_x t).2]; omega
/-- A row of the point's packed weights. -/
theorem w_blk (c : Dev nD) (t : Fin cfg1.N) (R : Fin 1024) (R' : Fin 14336) (h : R'.val = t.val / 6 * 1024 + R.val) :
    wrow (iblk1 V c 1 t) R = wprow (V c main_arg1) R' := by
  funext d
  unfold wrow wprow
  show V c main_arg1 ((win1_1.blk t).view.emb (ix2 R (Fin.ofNat 2048 d))) = V c main_arg1 (ix2 R' (Fin.ofNat 2048 d))
  congr 1
  funext a
  apply Fin.ext
  match a with
  | ⟨0, _⟩ =>
    show win1_1.index t 0 * 1024 + 1 * R.val = R'.val
    rw [(index_w t).1, h, one_mul]
  | ⟨1, _⟩ =>
    show win1_1.index t 1 * 2048 + 1 * (d % 2048) = d % 2048
    rw [(index_w t).2]; omega
/-- A row of the point's scales. -/
theorem s_blk (c : Dev nD) (t : Fin cfg1.N) (R : Fin 1024) (R' : Fin 14336) (h : R'.val = t.val / 6 * 1024 + R.val) :
    scrow (iblk1 V c 2 t) R = wsrow (V c main_v2) R' := by
  funext d
  unfold scrow wsrow
  show V c main_v2 ((win1_2.blk t).view.emb (ix2 R (Fin.ofNat 128 d))) = V c main_v2 (ix2 R' (Fin.ofNat 128 d))
  congr 1
  funext a
  apply Fin.ext
  match a with
  | ⟨0, _⟩ =>
    show win1_2.index t 0 * 1024 + 1 * R.val = R'.val
    rw [(index_s t).1, h, one_mul]
  | ⟨1, _⟩ =>
    show win1_2.index t 1 * 128 + 1 * (d % 128) = d % 128
    rw [(index_s t).2]; omega

/-- Row `R` of the product's block at point `t`, in full. -/
theorem block_at (c : Dev nD) (t : Fin cfg1.N) (R n : Fin 1024) (R' : Fin 6144) (n' : Fin 14336)
    (hR : R'.val = t.val % 6 * 1024 + R.val) (hn : n'.val = t.val / 6 * 1024 + n.val) :
    (outsAt1 V c t.val t.isLt).1 (ix2 R n)
      = ∑ k : Fin 4096, pterm (V c main_v1_0) (V c main_arg1) (V c main_v2) R' n' k := by
  have h0 : n'.val = (row0 t.val t.isLt).val / 6 * 1024 + n.val := by
    rw [hn]; show _ = t.val / 6 * 6 / 6 * 1024 + n.val; rw [Nat.mul_div_cancel _ (by decide : 0 < 6)]
  rw [result, pay3_at]
  refine Finset.sum_congr rfl fun k _ => ?_
  rw [tile_at, x_blk V c t R R' hR k, w_blk V c _ n n' h0, s_blk V c _ n n' h0]
  rfl

/-- The product after the second region. -/
theorem y_arr (c : Dev nD) : (dat1 V c).arrAt 3 cfg1.N = (fun j : S6144x14336.Idx =>
    ∑ k : Fin 4096, pterm (V c main_v1_0) (V c main_arg1) (V c main_v2) (j 0) (j 1) k) := by
  refine (dat1 V c).arrAt_eq_of_covers 3 _ (by decide +kernel) fun t hf y => ?_
  rw [after1_3]
  blk_simp
  refine (congrArg _ (ix2_eta y).symm).trans (block_at V c t (y 0) (y 1) ((win1_3.blk t).view.emb y 0) ((win1_3.blk t).view.emb y 1) ?_ ?_)
  · show win1_3.index t 0 * 1024 + 1 * (y 0).val = _
    rw [(index_y t).1, one_mul]
  · show win1_3.index t 1 * 1024 + 1 * (y 1).val = _
    rw [(index_y t).2, one_mul]
end Cert.KernelIdeal.Weight
end
-- ==== Proof.Rows.lean ====
module

public import proofs.«01_k».proof.Proof.Group

/-! The rows of the arguments as functions of the column, one row of the product, and the two orders in which the
    programs sum it. -/

@[expose] public section
noncomputable section
namespace Cert.Rows
open Idealize.ShloMosaic

/-- Row `R` of the activations, their two leading axes taken together. -/
def arow (x : (⟨3, ![4, 1536, 4096]⟩ : Shape).Idx → EReal) (R : Fin 6144) (d : ℕ) : EReal :=
  x (ix3 ⟨R.val / 1536, by omega⟩ ⟨R.val % 1536, by omega⟩ (Fin.ofNat 4096 d))
/-- Row `n` of the packed weights. -/
def wrow (w : (⟨2, ![14336, 2048]⟩ : Shape).Idx → BitVec 8) (n : Fin 14336) (d : ℕ) : BitVec 8 := w (ix2 n (Fin.ofNat 2048 d))
/-- Row `n` of the weights' scales. -/
def srow (s : (⟨2, ![14336, 32]⟩ : Shape).Idx → EReal) (n : Fin 14336) (g : ℕ) : EReal := s (ix2 n (Fin.ofNat 32 g))

/-- One term of the product: feature `d` of row `R` by column `d` of weight row `n`, both dequantised. -/
def term (x : (⟨3, ![4, 1536, 4096]⟩ : Shape).Idx → EReal) (w : (⟨2, ![14336, 2048]⟩ : Shape).Idx → BitVec 8)
    (s : (⟨2, ![14336, 32]⟩ : Shape).Idx → EReal) (R : Fin 6144) (n : Fin 14336) (d : ℕ) : EReal :=
  Group.deq (arow x R) d * Group.wdq (wrow w n) (srow s n) d

/-- The weights' row reads its scales at the 32 groups only. -/
theorem wdq_congr {w : ℕ → BitVec 8} {s s' : ℕ → EReal} {d : ℕ} (hd : d < 4096) (h : ∀ g < 32, s g = s' g) : Group.wdq w s d = Group.wdq w s' d := by
  unfold Group.wdq
  rw [h _ (by omega)]

/-- A sum over all features is the sum over the even ones and the sum over the odd ones. -/
theorem sum_halves (f : ℕ → EReal) : ∑ d : Fin 4096, f d.val = (∑ j : Fin 2048, f (2 * j.val)) + ∑ j : Fin 2048, f (2 * j.val + 1) := by
  have e : ∑ d : Fin (2048 * 2), f d.val = ∑ p : Fin 2048 × Fin 2, f (p.2.val + 2 * p.1.val) :=
    (Equiv.sum_comp (finProdFinEquiv (m := 2048) (n := 2)) fun d => f d.val).symm
  refine e.trans ?_
  rw [Fintype.sum_prod_type, ← Finset.sum_add_distrib]
  refine Finset.sum_congr rfl fun j _ => ?_
  rw [Fin.sum_univ_two]
  congr 2
  · exact Nat.zero_add _
  · exact Nat.add_comm _ _

/-- A sum over all features in another order is the same sum. -/
theorem sum_order (p : ℕ → ℕ) (lt : ∀ k < 4096, p k < 4096) (inj : ∀ k < 4096, ∀ k' < 4096, p k = p k' → k = k') (f : ℕ → EReal) :
    ∑ k : Fin 4096, f (p k.val) = ∑ d : Fin 4096, f d.val := by
  have i : Function.Injective fun k : Fin 4096 => (⟨p k.val, lt k.val k.isLt⟩ : Fin 4096) := fun k k' h =>
    Fin.ext (inj k.val k.isLt k'.val k'.isLt (congrArg Fin.val h))
  exact Fintype.sum_bijective _ (Finite.injective_iff_bijective.1 i) _ (fun d : Fin 4096 => f d.val) fun _ => rfl
end Cert.Rows
end
-- ==== Proof.KernelIdeal.Final.lean ====
module

public import proofs.«01_k».proof.Proof.KernelIdeal.Run
public import proofs.«01_k».proof.Proof.KernelIdeal.Arrays
public import proofs.«01_k».proof.Proof.KernelIdeal.Result
public import proofs.«01_k».proof.Proof.Rows

/-! What the kernel's results hold at the end, as functions of the arguments' rows. -/

@[expose] public section
noncomputable section
namespace Cert.KernelIdeal.Final
open Cert.KernelIdeal.Gen Cert.KernelIdeal.Whole Cert.KernelIdeal.Chunk Cert.KernelIdeal.Weight Cert.Rows
open Idealize.ShloMosaic Idealize.ShloMosaic.TcCoe Idealize.ShloMosaic.Tactic

/-- The reshape before the first region. -/
theorem after0 (X : Valuation τ sig (Elt Ideal)) :
    StableHlo.after hostOps0 X (Proc.devRef .tc main_v0) = shapeCast S6144x4096 (X (Proc.devRef .tc main_arg0) : Vec Ideal S4x1536x4096 .bf16) shapeCasts_S4x1536x4096_S6144x4096 := by
  rw [hostOps0]
  after_results
  rfl

/-- The padding between the regions. -/
theorem after1 (X : Valuation τ sig (Elt Ideal)) :
    ∃ z : FVec Ideal S_ .f32, StableHlo.after hostOps1_1 X (Proc.devRef .tc main_v2)
      = pad (s := S14336x32) (α := EReal) S14336x128 ![0, 0] ![0, 96] ![0, 0] (X (Proc.devRef .tc main_arg2)) z pads_S14336x32_S14336x128_000_0960 h_S_ := by
  rw [hostOps1_1]
  after_results
  exact ⟨_, rfl⟩

/-- A row of the reshaped activations. -/
theorem cast_row (x : Vec Ideal S4x1536x4096 .bf16) (R : Fin 6144) : xrow (shapeCast S6144x4096 x shapeCasts_S4x1536x4096_S6144x4096) R = arow x R := by
  funext d
  unfold xrow arow
  pointwise

/-- A row of the padded scales at the groups it holds. -/
theorem pad_row (s : Vec Ideal S14336x32 .f32) (z : FVec Ideal S_ .f32) (n : Fin 14336) (g : ℕ) (hg : g < 32) :
    wsrow (pad S14336x128 ![0, 0] ![0, 96] ![0, 0] s z pads_S14336x32_S14336x128_000_0960 h_S_) n g = Rows.srow s n g := by
  unfold wsrow Rows.srow
  pointwise
  refine (dif_pos (show g % 128 < 32 by omega)).trans ?_
  exact congrArg (fun k => s (ix2 n k)) (Fin.ext (by show g % 128 = g % 32; omega))

/-- The kernel's column order stays within the row. -/
theorem perm_lt : ∀ k < 4096, perm k < 4096 := by
  unfold perm; omega
/-- The kernel's column order takes no column twice. -/
theorem perm_inj : ∀ k < 4096, ∀ k' < 4096, perm k = perm k' → k = k' := by
  unfold perm; omega

/-- One term of the product, from rows that agree. -/
theorem pterm_eq (A : Vec Ideal S6144x4096 .bf16) (W : Vec Ideal S14336x2048 .i8) (S : Vec Ideal S14336x128 .f32)
    (x : Vec Ideal S4x1536x4096 .bf16) (s : Vec Ideal S14336x32 .f32)
    (hA : ∀ R k, acrow A R k = Group.deq (arow x R) (perm k.val)) (hS : ∀ n, ∀ g < 32, wsrow S n g = Rows.srow s n g)
    (R : Fin 6144) (n : Fin 14336) (k : Fin 4096) : pterm A W S R n k = term x W s R n (perm k.val) := by
  unfold pterm term
  rw [hA, wdq_congr (perm_lt k.val k.isLt) (hS n)]
  rfl

section
variable (m : (ℓ : Loc nD τ sig) → Buf (Elt Ideal) ℓ) (ρ : Dev nD → PrngReg) (c : Dev nD)

/-- A row of what the quantiser reads is a row of the argument. -/
theorem row0 (R : Fin 6144) : xrow (V1 m ρ c main_v0) R = arow (m ((c : Thread nD τ).loc main_arg0)) R := by
  have e : V1 m ρ c main_v0 = shapeCast S6144x4096 (m ((c : Thread nD τ).loc main_arg0) : Vec Ideal S4x1536x4096 .bf16) shapeCasts_S4x1536x4096_S6144x4096 := after0 (W0 m ρ c)
  rw [e]
  exact cast_row _ R

/-- The activations that the product reads, column by column in the kernel's order. -/
theorem acts4 (R : Fin 6144) (k : Fin 4096) : acrow (V4 m ρ c main_v1_0) R k = Group.deq (arow (m ((c : Thread nD τ).loc main_arg0)) R) (perm k.val) := by
  have e : V4 m ρ c main_v1_0 = (dat0 (V1 m ρ) c).arrAt 1 cfg0.N :=
    ((W4_of m ρ c main_v1_0 (by decide)).trans (W3_of m ρ c main_v1_0 (by decide))).trans (W2_arr m ρ c 1)
  rw [e, acts_arr]
  unfold acrow
  show Group.deq (xrow (V1 m ρ c main_v0) R) (perm k.val) = _
  rw [row0]

/-- The weights' scales that the product reads. -/
theorem scales4 (n : Fin 14336) (g : ℕ) (hg : g < 32) : wsrow (V4 m ρ c main_v2) n g = Rows.srow (m ((c : Thread nD τ).loc main_arg2)) n g := by
  obtain ⟨z, e⟩ := after1 (W3 m ρ c)
  have e2 : W3 m ρ c (Proc.devRef .tc main_arg2) = m ((c : Thread nD τ).loc main_arg2) := W3_args m ρ c main_arg2 (by decide)
  have e' : V4 m ρ c main_v2 = pad (s := S14336x32) (α := EReal) S14336x128 ![0, 0] ![0, 96] ![0, 0] (m ((c : Thread nD τ).loc main_arg2)) z pads_S14336x32_S14336x128_000_0960 h_S_ := by
    rw [← e2]
    exact e
  rw [e']
  exact pad_row _ z n g hg

/-- The product. -/
theorem y_end : W5 m ρ c (Proc.devRef .tc main_v3) = fun j : S6144x14336.Idx =>
    ∑ d : Fin 4096, term (m ((c : Thread nD τ).loc main_arg0)) (m ((c : Thread nD τ).loc main_arg1)) (m ((c : Thread nD τ).loc main_arg2)) (j 0) (j 1) d.val := by
  refine (W5_arr m ρ c 3).trans ?_
  rw [y_arr]
  funext j
  rw [← sum_order perm perm_lt perm_inj]
  refine Finset.sum_congr rfl fun k _ => ?_
  have e1 : V4 m ρ c main_arg1 = m ((c : Thread nD τ).loc main_arg1) := W4_args m ρ c main_arg1 (by decide)
  rw [e1]
  exact pterm_eq _ _ _ _ _ (acts4 m ρ c) (scales4 m ρ c) (j 0) (j 1) k

/-- What the quantiser leaves stays to the end. -/
theorem keep (r : Ref sig .tc) (h5 : ∀ w : Fin cfg1.W, Pipeline.arrRef spec1 w = r → (cfg1.win w).isOut = false) (h4 : r ∉ hostOps1_1_W) (h3 : r ∉ hostOps1_W) :
    W5 m ρ c (Proc.devRef .tc r) = W2 m ρ c (Proc.devRef .tc r) :=
  ((W5_of m ρ c r h5).trans (W4_of m ρ c r h4)).trans (W3_of m ρ c r h3)

/-- The packed codes. -/
theorem codes_end : W5 m ρ c (Proc.devRef .tc main_v1_1) = fun j : S6144x2048.Idx =>
    Group.packed (arow (m ((c : Thread nD τ).loc main_arg0)) (j 0)) (j 1).val := by
  refine ((keep m ρ c main_v1_1 (by decide) (by decide) (by decide)).trans (W2_arr m ρ c 2)).trans ?_
  rw [codes_arr]
  funext j
  exact congrArg (fun v => Group.packed v (j 1).val) (row0 m ρ c (j 0))
/-- The scales. -/
theorem scales_end : W5 m ρ c (Proc.devRef .tc main_v1_2) = fun j : S6144x32.Idx =>
    Group.sc (Group.grp (arow (m ((c : Thread nD τ).loc main_arg0)) (j 0)) (j 1).val) := by
  refine ((keep m ρ c main_v1_2 (by decide) (by decide) (by decide)).trans (W2_arr m ρ c 3)).trans ?_
  rw [scales_arr]
  funext j
  exact congrArg (fun v => Group.sc (Group.grp v (j 1).val)) (row0 m ρ c (j 0))
/-- The zero points. -/
theorem zeros_end : W5 m ρ c (Proc.devRef .tc main_v1_3) = fun j : S6144x32.Idx =>
    Group.zb (Group.grp (arow (m ((c : Thread nD τ).loc main_arg0)) (j 0)) (j 1).val) := by
  refine ((keep m ρ c main_v1_3 (by decide) (by decide) (by decide)).trans (W2_arr m ρ c 4)).trans ?_
  rw [zeros_arr]
  funext j
  exact congrArg (fun v => Group.zb (Group.grp v (j 1).val)) (row0 m ρ c (j 0))
end
end Cert.KernelIdeal.Final
end
-- ==== Proof.ReferenceIdeal.Quant.lean ====
module

public import proofs.«01_k».proof.Proof.Gen.ReferenceIdeal.Value
public import proofs.«01_k».proof.Proof.Rows
public import Idealize.ShloMosaic.Lib.Pointwise

/-! The reference's quantiser, element by element: the scales, the zero points and the codes are the functions of the
    row's group. -/

@[expose] public section
noncomputable section
namespace Cert.ReferenceIdeal.Rows
open Cert.ReferenceIdeal.Gen Cert.Rows
open Idealize.ShloMosaic Idealize.ShloMosaic.TcCoe Idealize.ShloMosaic.Tactic

/-- An element of a group of the activations, out of the reshaped array. -/
theorem x_at (v : Vec Ideal S4x1536x4096 .bf16) (R : Fin 6144) (g : Fin 32) (d : Fin 128) : k0_pay2 v (ix3 R g d) = Group.grp (arow v R) g.val d := by
  unfold k0_pay2
  pointwise
  unfold Group.grp arow
  exact congrArg (fun c => v (ix3 _ _ c)) (Fin.ext (by show g.val * 128 + d.val = (128 * g.val + d.val) % 4096; omega))

section
variable {n0 n1 n2 : ℕ} {t : Shape} (A : FVec Ideal ⟨3, ![n0, n1, n2]⟩ .f32) (acc : BitVec 32) (h : (⟨3, ![n0, n1, n2]⟩ : Shape).Reduces [2] t) (hφ : FKind.Formats .f32)
/-- A minimum along the last of three axes, at an index. -/
theorem min_last (hacc : acc = FKind.minimumf.neutral .f32 hφ) (j : t.Idx) :
    multiReduction .minimumf [2] t A acc h hφ hacc j
      = (Finset.univ : Finset (Fin n2)).fold min (Ideal.ofBits .f32 acc) fun k => A (ix3 ⟨(j ⟨0, h.lt_r3_a2_0⟩).val, Shape.coordLt (j ⟨0, h.lt_r3_a2_0⟩) h.size_r3_a2_0⟩ ⟨(j ⟨1, h.lt_r3_a2_1⟩).val, Shape.coordLt (j ⟨1, h.lt_r3_a2_1⟩) h.size_r3_a2_1⟩ k) :=
  (multiReduction_minimumf_eq_fold A acc h hφ hacc j).trans (h.fold_fiber_r3_a2 j _ _ A)
/-- A maximum along the last of three axes, at an index. -/
theorem max_last (hacc : acc = FKind.maximumf.neutral .f32 hφ) (j : t.Idx) :
    multiReduction .maximumf [2] t A acc h hφ hacc j
      = (Finset.univ : Finset (Fin n2)).fold max (Ideal.ofBits .f32 acc) fun k => A (ix3 ⟨(j ⟨0, h.lt_r3_a2_0⟩).val, Shape.coordLt (j ⟨0, h.lt_r3_a2_0⟩) h.size_r3_a2_0⟩ ⟨(j ⟨1, h.lt_r3_a2_1⟩).val, Shape.coordLt (j ⟨1, h.lt_r3_a2_1⟩) h.size_r3_a2_1⟩ k) :=
  (multiReduction_maximumf_eq_fold A acc h hφ hacc j).trans (h.fold_fiber_r3_a2 j _ _ A)
end

/-- The smaller of a constant and an element. -/
theorem min_at {s : Shape} (b : BitVec 32) (M : FVec Ideal s .f32) (j : s.Idx) (u w : EReal) (hb : Ideal.ofBits .f32 b = u) (hM : M j = w) :
    minimumf (broadcast s (Scalar.ofBits .f32 b)) M j = min u w := by
  subst hb hM; rfl
/-- The larger of a constant and an element. -/
theorem max_at {s : Shape} (b : BitVec 32) (M : FVec Ideal s .f32) (j : s.Idx) (u w : EReal) (hb : Ideal.ofBits .f32 b = u) (hM : M j = w) :
    maximumf (broadcast s (Scalar.ofBits .f32 b)) M j = max u w := by
  subst hb hM; rfl

/-- The smallest element of a group and zero, over any array. -/
theorem lo_form (A : FVec Ideal S6144x32x128 .f32) (R : Fin 6144) (g : Fin 32) :
    minimumf (broadcast S6144x32 (Scalar.ofBits .f32 0x00000000#32)) (multiReduction .minimumf [2] S6144x32 A 0x7F800000#32 reduces_S6144x32x128_S6144x32 (.inl rfl) rfl) (ix2 R g)
      = Group.lo fun d => A (ix3 R g d) := by
  refine min_at _ _ _ _ _ Group.bits_zero (min_last A _ _ _ _ _ |>.trans ?_)
  rw [Group.bits_top]
  rfl

/-- The group's lower end. -/
theorem lo_at (v : Vec Ideal S4x1536x4096 .bf16) (R : Fin 6144) (g : Fin 32) : k0_pay3 v (ix2 R g) = Group.lo (Group.grp (arow v R) g.val) := by
  unfold k0_pay3
  exact (lo_form _ R g).trans (congrArg Group.lo (funext (x_at v R g)))

/-- The largest element of a group and zero, over any array. -/
theorem hi_form (A : FVec Ideal S6144x32x128 .f32) (R : Fin 6144) (g : Fin 32) :
    maximumf (broadcast S6144x32 (Scalar.ofBits .f32 0x00000000#32)) (multiReduction .maximumf [2] S6144x32 A 0xFF800000#32 reduces_S6144x32x128_S6144x32 (.inl rfl) rfl) (ix2 R g)
      = Group.hi fun d => A (ix3 R g d) := by
  refine max_at _ _ _ _ _ Group.bits_zero (max_last A _ _ _ _ _ |>.trans ?_)
  rw [Group.bits_bot]
  rfl

/-- The scale from the two ends of the range. -/
theorem sc_form (A B : FVec Ideal S6144x32 .f32) (R : Fin 6144) (g : Fin 32) :
    select (cmpf .oeq A B) (broadcast S6144x32 (Scalar.ofBits .f32 0x3F800000#32)) (divf (subf A B) (broadcast S6144x32 (Scalar.ofBits .f32 0x41700000#32))) (ix2 R g)
      = if A (ix2 R g) = B (ix2 R g) then 1 else Ideal.div (A (ix2 R g) - B (ix2 R g)) ((15 : ℝ) : EReal) := by
  pointwise
  rw [Group.bits_fifteen]

/-- The group's scale. -/
theorem sc_at (v : Vec Ideal S4x1536x4096 .bf16) (R : Fin 6144) (g : Fin 32) : k0_pay4 v (ix2 R g) = Group.sc (Group.grp (arow v R) g.val) := by
  unfold k0_pay4
  refine (sc_form _ _ R g).trans ?_
  rw [lo_at, hi_form, funext (x_at v R g)]
  unfold Group.sc
  with_reducible rfl

/-- The zero point from the lower end and the scale. -/
theorem zp_form (A B : FVec Ideal S6144x32 .f32) (R : Fin 6144) (g : Fin 32) :
    roundeven (divf (subf (broadcast S6144x32 (Scalar.ofBits .f32 0x00000000#32)) A) B) (ix2 R g) = Group.rnd (Ideal.div (0 - A (ix2 R g)) (B (ix2 R g))) := by
  pointwise
  unfold Group.rnd
  with_reducible rfl

/-- The group's zero point as a number. -/
theorem zp_at (v : Vec Ideal S4x1536x4096 .bf16) (R : Fin 6144) (g : Fin 32) : k0_pay5 v (ix2 R g) = Group.zp (Group.grp (arow v R) g.val) := by
  unfold k0_pay5
  refine (zp_form _ _ R g).trans ?_
  rw [lo_at, sc_at]
  unfold Group.zp
  with_reducible rfl

/-- A number turned into a byte. -/
theorem zb_form (A : FVec Ideal S6144x32 .f32) (R : Fin 6144) (g : Fin 32) : fptoui 8 A (ix2 R g) = Ideal.fptoui 8 (A (ix2 R g)) := by
  pointwise
  rfl

/-- The group's zero point as a byte. -/
theorem zb_at (v : Vec Ideal S4x1536x4096 .bf16) (R : Fin 6144) (g : Fin 32) : k0_pay7 v (ix2 R g) = Group.zb (Group.grp (arow v R) g.val) := by
  unfold k0_pay7
  refine (zb_form _ R g).trans ?_
  rw [zp_at]
  unfold Group.zb
  with_reducible rfl

/-- A code from the element, the scale and the zero point. -/
theorem cd_form (X : FVec Ideal S6144x32x128 .f32) (S Z : FVec Ideal S6144x32 .f32) (R : Fin 6144) (g : Fin 32) (d : Fin 128) :
    fptoui 8 (minimumf (broadcast S6144x32x128 (Scalar.ofBits .f32 0x41700000#32)) (maximumf (broadcast S6144x32x128 (Scalar.ofBits .f32 0x00000000#32))
      (addf (roundeven (divf X (broadcastTo S6144x32x128 (shapeCast S6144x32x1 S shapeCasts_S6144x32_S6144x32x1) broadcasts_S6144x32x1_S6144x32x128)))
        (broadcastTo S6144x32x128 (shapeCast S6144x32x1 Z shapeCasts_S6144x32_S6144x32x1) broadcasts_S6144x32x1_S6144x32x128)))) (ix3 R g d)
      = Ideal.fptoui 8 (min ((15 : ℝ) : EReal) (max 0 (Group.rnd (Ideal.div (X (ix3 R g d)) (S (ix2 R g))) + Z (ix2 R g)))) := by
  pointwise
  rw [Group.bits_fifteen]
  unfold Group.rnd
  rfl

/-- An element's code. -/
theorem cd_at (v : Vec Ideal S4x1536x4096 .bf16) (R : Fin 6144) (g : Fin 32) (d : Fin 128) : k0_pay6 v (ix3 R g d) = Group.cd (Group.grp (arow v R) g.val) d := by
  unfold k0_pay6
  refine (cd_form _ _ _ R g d).trans ?_
  rw [x_at, sc_at, zp_at]
  unfold Group.cd Group.qd
  with_reducible rfl
end Cert.ReferenceIdeal.Rows
end
-- ==== Proof.ReferenceIdeal.Product.lean ====
module

public import proofs.«01_k».proof.Proof.ReferenceIdeal.Quant

/-! The reference's packed codes, its dequantised operands and its product, element by element. -/

@[expose] public section
noncomputable section
namespace Cert.ReferenceIdeal.Rows
open Cert.ReferenceIdeal.Gen Cert.Rows
open Idealize.ShloMosaic Idealize.ShloMosaic.TcCoe Idealize.ShloMosaic.Tactic

/-- Two neighbouring codes packed into a byte. -/
theorem packed_form (C : IVec S6144x32x128 8) (R : Fin 6144) (j : Fin 2048) :
    ori (shapeCast S6144x2048 (extractStridedSlice S6144x2048x1 ![0, 0, 0] (shapeCast S6144x2048x2 C shapeCasts_S6144x32x128_S6144x2048x2) slices_S6144x2048x2_o0_0_0_S6144x2048x1) shapeCasts_S6144x2048x1_S6144x2048)
      (shli (shapeCast S6144x2048 (extractStridedSlice S6144x2048x1 ![0, 0, 1] (shapeCast S6144x2048x2 C shapeCasts_S6144x32x128_S6144x2048x2) slices_S6144x2048x2_o0_0_1_S6144x2048x1) shapeCasts_S6144x2048x1_S6144x2048) (broadcast S6144x2048 4#8)) (ix2 R j)
      = C (ix3 R ⟨j.val / 64, by omega⟩ ⟨j.val % 64 * 2, by omega⟩) ||| (C (ix3 R ⟨j.val / 64, by omega⟩ ⟨j.val % 64 * 2 + 1, by omega⟩) <<< 4) := by
  pointwise
  rfl

/-- A row's code in an even and in an odd column. -/
theorem code_even (v : ℕ → EReal) (j : Fin 2048) : Group.code v (2 * j.val) = Group.cd (Group.grp v (j.val / 64)) ⟨j.val % 64 * 2, by omega⟩ := by
  unfold Group.code
  rw [show 2 * j.val / 128 = j.val / 64 by omega]
  exact congrArg _ (Fin.ext (by show 2 * j.val % 128 = j.val % 64 * 2; omega))
theorem code_odd (v : ℕ → EReal) (j : Fin 2048) : Group.code v (2 * j.val + 1) = Group.cd (Group.grp v (j.val / 64)) ⟨j.val % 64 * 2 + 1, by omega⟩ := by
  unfold Group.code
  rw [show (2 * j.val + 1) / 128 = j.val / 64 by omega]
  exact congrArg _ (Fin.ext (by show (2 * j.val + 1) % 128 = j.val % 64 * 2 + 1; omega))

/-- A byte of the packed codes. -/
theorem packed_at (v : Vec Ideal S4x1536x4096 .bf16) (R : Fin 6144) (j : Fin 2048) : k0_pay8 v (ix2 R j) = Group.packed (arow v R) j.val := by
  unfold k0_pay8
  refine (packed_form _ R j).trans ?_
  rw [cd_at, cd_at]
  unfold Group.packed
  rw [code_even, code_odd]

/-- A dequantised activation in an even column, from the scales, the codes and the zero points. -/
theorem even_form (A : FVec Ideal S6144x32 .f32) (C : IVec S6144x32x128 8) (Z : IVec S6144x32 8) (R : Fin 6144) (j : Fin 2048) :
    k0_pay10 A C Z (ix2 R j)
      = ((((C (ix3 R ⟨j.val / 64, by omega⟩ ⟨j.val % 64 * 2, by omega⟩)).setWidth 32 - (Z (ix2 R ⟨j.val / 64, by omega⟩)).setWidth 32).toInt : ℝ) : EReal) * A (ix2 R ⟨j.val / 64, by omega⟩) := by
  unfold k0_pay10 k0_pay9
  pointwise
  rfl
/-- The same in an odd column. -/
theorem odd_form (A : FVec Ideal S6144x32 .f32) (C : IVec S6144x32x128 8) (Z : IVec S6144x32 8) (R : Fin 6144) (j : Fin 2048) :
    k0_pay11 A C Z (ix2 R j)
      = ((((C (ix3 R ⟨j.val / 64, by omega⟩ ⟨j.val % 64 * 2 + 1, by omega⟩)).setWidth 32 - (Z (ix2 R ⟨j.val / 64, by omega⟩)).setWidth 32).toInt : ℝ) : EReal) * A (ix2 R ⟨j.val / 64, by omega⟩) := by
  unfold k0_pay11 k0_pay9
  pointwise
  rfl

/-- The dequantised activation in an even column. -/
theorem even_at (v : Vec Ideal S4x1536x4096 .bf16) (R : Fin 6144) (j : Fin 2048) :
    k0_pay10 (k0_pay4 v) (k0_pay6 v) (k0_pay7 v) (ix2 R j) = Group.deq (arow v R) (2 * j.val) := by
  refine (even_form _ _ _ R j).trans ?_
  rw [cd_at, zb_at, sc_at, Group.sub_toInt]
  unfold Group.deq Group.dq
  rw [show 2 * j.val / 128 = j.val / 64 by omega, show Fin.ofNat 128 (2 * j.val) = ⟨j.val % 64 * 2, by omega⟩ from Fin.ext (by show 2 * j.val % 128 = j.val % 64 * 2; omega)]
/-- The dequantised activation in an odd column. -/
theorem odd_at (v : Vec Ideal S4x1536x4096 .bf16) (R : Fin 6144) (j : Fin 2048) :
    k0_pay11 (k0_pay4 v) (k0_pay6 v) (k0_pay7 v) (ix2 R j) = Group.deq (arow v R) (2 * j.val + 1) := by
  refine (odd_form _ _ _ R j).trans ?_
  rw [cd_at, zb_at, sc_at, Group.sub_toInt]
  unfold Group.deq Group.dq
  rw [show (2 * j.val + 1) / 128 = j.val / 64 by omega, show Fin.ofNat 128 (2 * j.val + 1) = ⟨j.val % 64 * 2 + 1, by omega⟩ from Fin.ext (by show (2 * j.val + 1) % 128 = j.val % 64 * 2 + 1; omega)]

/-- The low half of a byte, taken as a signed number. -/
theorem low_half : ∀ b : BitVec 8, (Scalar.select (IntOp.cmpi CmpIPredicate.sge (IntOp.andi (BitVec.setWidth 32 b) 15#32) 8#32)
    (IntOp.subi (IntOp.andi (BitVec.setWidth 32 b) 15#32) 16#32) (IntOp.andi (BitVec.setWidth 32 b) 15#32)).toInt = Group.i4 b 0 := by
  decide +kernel
/-- The high half of a byte, taken as a signed number. -/
theorem high_half : ∀ b : BitVec 8, (Scalar.select (IntOp.cmpi CmpIPredicate.sge (IntOp.shrsi ArithUnit.vector (BitVec.setWidth 32 b) 4#32) 8#32)
    (IntOp.subi (IntOp.shrsi ArithUnit.vector (BitVec.setWidth 32 b) 4#32) 16#32) (IntOp.shrsi ArithUnit.vector (BitVec.setWidth 32 b) 4#32)).toInt = Group.i4 b 1 := by
  decide +kernel

/-- A whole number and the scale read at the same group. -/
theorem half_mul {a b : ℤ} (h : a = b) {x y : EReal} (e : x = y) : ((a : ℝ) : EReal) * x = ((b : ℝ) : EReal) * y := by rw [h, e]

/-- The dequantised weight in an even column. -/
theorem wlow_at (w : Vec Ideal S14336x2048 .i8) (s : Vec Ideal S14336x32 .f32) (n : Fin 14336) (j : Fin 2048) :
    k0_pay14 w s (ix2 n j) = Group.wdq (wrow w n) (srow s n) (2 * j.val) := by
  unfold k0_pay14 k0_pay13 k0_pay12
  pointwise
  have e : wrow w n (2 * j.val / 2) = w (ix2 n j) := by
    unfold wrow
    exact congrArg (fun c => w (ix2 n c)) (Fin.ext (by show 2 * j.val / 2 % 2048 = j.val; omega))
  unfold Group.wdq
  rw [e, show 2 * j.val % 2 = 0 by omega]
  refine half_mul (low_half _) ?_
  unfold srow
  exact congrArg (fun c => s (ix2 n c)) (Fin.ext (by show j.val / 64 = 2 * j.val / 128 % 32; omega))
/-- The dequantised weight in an odd column. -/
theorem whigh_at (w : Vec Ideal S14336x2048 .i8) (s : Vec Ideal S14336x32 .f32) (n : Fin 14336) (j : Fin 2048) :
    k0_pay15 w s (ix2 n j) = Group.wdq (wrow w n) (srow s n) (2 * j.val + 1) := by
  unfold k0_pay15 k0_pay13 k0_pay12
  pointwise
  have e : wrow w n ((2 * j.val + 1) / 2) = w (ix2 n j) := by
    unfold wrow
    exact congrArg (fun c => w (ix2 n c)) (Fin.ext (by show (2 * j.val + 1) / 2 % 2048 = j.val; omega))
  unfold Group.wdq
  rw [e, show (2 * j.val + 1) % 2 = 1 by omega]
  refine half_mul (high_half _) ?_
  unfold srow
  exact congrArg (fun c => s (ix2 n c)) (Fin.ext (by show j.val / 64 = (2 * j.val + 1) / 128 % 32; omega))

/-- The sum of the two products. -/
theorem y_form (a b : FVec Ideal S6144x2048 .bf16) (c d : FVec Ideal S14336x2048 .bf16) (R : Fin 6144) (n : Fin 14336) :
    k0_pay1 a b c d (constant S6144x14336 .f32 0x00000000#32) (ix2 R n) = (∑ j : Fin 2048, a (ix2 R j) * c (ix2 n j)) + ∑ j : Fin 2048, b (ix2 R j) * d (ix2 n j) := by
  unfold k0_pay1
  pointwise

section
variable (a0 : Vec Ideal S4x1536x4096 .bf16) (a1 : Vec Ideal S14336x2048 .i8) (a2 : Vec Ideal S14336x32 .f32)
/-- The scales that the body hands on are the quantiser's. -/
theorem scales_eq : k0_pay16 a0 a1 a2 = k0_pay4 a0 := by
  unfold k0_pay16
  rw [View.ld_unit_zero (S := S4x1536x4096) Value.hz0 _ a0]
/-- The codes that the body hands on are the quantiser's. -/
theorem codes_eq : k0_pay17 a0 a1 a2 = k0_pay6 a0 := by
  unfold k0_pay17
  rw [View.ld_unit_zero (S := S4x1536x4096) Value.hz0 _ a0]
/-- The zero points that the body hands on are the quantiser's. -/
theorem zeros_eq : k0_pay18 a0 a1 a2 = k0_pay7 a0 := by
  unfold k0_pay18
  rw [View.ld_unit_zero (S := S4x1536x4096) Value.hz0 _ a0]

/-- The product: every feature of the row against every column of the weights' row. -/
theorem G3_at (R : Fin 6144) (n : Fin 14336) : Value.G3 a0 a1 a2 (ix2 R n) = ∑ d : Fin 4096, term a0 a1 a2 R n d.val := by
  rw [Value.G3, scales_eq, codes_eq, zeros_eq]
  refine (y_form _ _ _ _ R n).trans ?_
  rw [sum_halves (term a0 a1 a2 R n)]
  refine congrArg₂ (fun p q : EReal => p + q) (Finset.sum_congr rfl fun j _ => ?_) (Finset.sum_congr rfl fun j _ => ?_)
  · rw [even_at, wlow_at, term]
  · rw [odd_at, whigh_at, term]
/-- The packed codes. -/
theorem G4_at (R : Fin 6144) (j : Fin 2048) : Value.G4 a0 a1 a2 (ix2 R j) = Group.packed (arow a0 R) j.val := packed_at a0 R j
/-- The scales. -/
theorem G5_at (R : Fin 6144) (g : Fin 32) : Value.G5 a0 a1 a2 (ix2 R g) = Group.sc (Group.grp (arow a0 R) g.val) := by
  rw [Value.G5, scales_eq]
  exact sc_at a0 R g
/-- The zero points. -/
theorem G6_at (R : Fin 6144) (g : Fin 32) : Value.G6 a0 a1 a2 (ix2 R g) = Group.zb (Group.grp (arow a0 R) g.val) := by
  rw [Value.G6, zeros_eq]
  exact zb_at a0 R g
end
end Cert.ReferenceIdeal.Rows
end
-- ==== Proof.lean ====
/- The claims: each program runs to the end and leaves its arguments and counters as they were, the idealized program is
   the program's own, and from equal arguments the kernel and the reference end with equal results: the product, the
   packed codes, the scales and the zero points. -/
module

public import proofs.«01_k».proof.Defs
public import proofs.«01_k».proof.Proof.Kernel.Run
public import proofs.«01_k».proof.Proof.KernelIdeal.Final
public import proofs.«01_k».proof.Proof.ReferenceIdeal.Product
public import proofs.«01_k».proof.Proof.Gen.ReferenceIdeal.Frame

@[expose] public section

noncomputable section

namespace Cert.Proof

open Idealize.ShloMosaic Idealize.SL.Sem

/-- From equal arguments the kernel and the reference end with the reference's results. -/
theorem algebraic : @Cert.algebraic_KernelIdeal_ReferenceIdeal Cert.KernelIdeal.Gen.facts Cert.ReferenceIdeal.Gen.facts := by
  intro m g m' g' _ hm
  refine ⟨_, _, _, _, (θ_run _ _ _).mono (fun r h c =>
    ⟨(h.1 c _ (Cert.KernelIdeal.Whole.mem_uc Cert.KernelIdeal.main_v3 (by decide))).trans (Cert.KernelIdeal.Final.y_end m g c),
     (h.1 c _ (Cert.KernelIdeal.Whole.mem_uc Cert.KernelIdeal.main_v1_1 (by decide))).trans (Cert.KernelIdeal.Final.codes_end m g c),
     (h.1 c _ (Cert.KernelIdeal.Whole.mem_uc Cert.KernelIdeal.main_v1_2 (by decide))).trans (Cert.KernelIdeal.Final.scales_end m g c),
     (h.1 c _ (Cert.KernelIdeal.Whole.mem_uc Cert.KernelIdeal.main_v1_3 (by decide))).trans (Cert.KernelIdeal.Final.zeros_end m g c),
     (h.1 c _ (Cert.KernelIdeal.Whole.mem_uc Cert.KernelIdeal.main_arg0 (by decide))).trans (Cert.KernelIdeal.Whole.W5_main_arg0 m g c),
     (h.1 c _ (Cert.KernelIdeal.Whole.mem_uc Cert.KernelIdeal.main_arg1 (by decide))).trans (Cert.KernelIdeal.Whole.W5_main_arg1 m g c),
     (h.1 c _ (Cert.KernelIdeal.Whole.mem_uc Cert.KernelIdeal.main_arg2 (by decide))).trans (Cert.KernelIdeal.Whole.W5_main_arg2 m g c)⟩)
      (Cert.KernelIdeal.Whole.run m g),
    (θ_run _ _ _).mono (fun r h c => ?_) (Cert.ReferenceIdeal.Value.run m' g')⟩
  obtain ⟨h0, h1, h2, h3, hargs⟩ := h c
  obtain ⟨e0, e1, e2⟩ := hm c
  rw [e0, e1, e2] at h0 h1 h2 h3
  refine ⟨h0.trans (funext fun j => ?_), h1.trans (funext fun j => ?_), h2.trans (funext fun j => ?_), h3.trans (funext fun j => ?_), hargs⟩
  · rw [← ix2_eta j]
    exact Cert.ReferenceIdeal.Rows.G3_at _ _ _ (j 0) (j 1)
  · rw [← ix2_eta j]
    exact Cert.ReferenceIdeal.Rows.G4_at _ _ _ (j 0) (j 1)
  · rw [← ix2_eta j]
    exact Cert.ReferenceIdeal.Rows.G5_at _ _ _ (j 0) (j 1)
  · rw [← ix2_eta j]
    exact Cert.ReferenceIdeal.Rows.G6_at _ _ _ (j 0) (j 1)

theorem claim : Cert.Claim := ⟨Cert.Kernel.Gen.facts, Cert.KernelIdeal.Gen.facts, Cert.ReferenceIdeal.Gen.facts,
  fun m ρ _ => Cert.Kernel.Whole.frame m ρ, fun m ρ _ => Cert.KernelIdeal.Whole.frame m ρ,
  fun m ρ _ => Cert.ReferenceIdeal.Gen.frame m ρ, trivial, algebraic⟩

end Cert.Proof

end
